-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x8x64 : Shape := ⟨3, ![256, 8, 64]⟩
abbrev S6048x32 : Shape := ⟨2, ![6048, 32]⟩
abbrev S32 : Shape := ⟨1, ![32]⟩
abbrev S_ : Shape := ⟨0, ![]⟩

class Facts : Prop where
  bcast_S_S256x8x64 : S_.BroadcastsInDim S256x8x64 (![] : Fin 0 → Fin S256x8x64.rank)
  bcast_S_S6048x32 : S_.BroadcastsInDim S6048x32 (![] : Fin 0 → Fin S6048x32.rank)

variable [Facts]

def fn {F : FTy → Type} [FloatOps F] (main_arg0 : FVec F S256x8x64 .f32) (main_arg1 : FVec F S6048x32 .f32) (main_arg2 : FVec F S32 .f32) : IVec S256x8x64 1 × IVec S6048x32 1 :=
  let main_cst : FVec F S_ .f32 := constant S_ .f32 0xFF800000#32
  let main_v0 : FVec F S256x8x64 .f32 := broadcastInDim S256x8x64 ![] bcast_S_S256x8x64 main_cst
  let main_v1 : IVec S256x8x64 1 := cmpf .ogt main_arg0 main_v0
  let main_cst_0 : FVec F S_ .f32 := constant S_ .f32 0x7F800000#32
  let main_v2 : FVec F S256x8x64 .f32 := broadcastInDim S256x8x64 ![] bcast_S_S256x8x64 main_cst_0
  let main_v3 : IVec S256x8x64 1 := cmpf .olt main_arg0 main_v2
  let main_v4 : IVec S256x8x64 1 := andi main_v1 main_v3
  let main_cst_1 : FVec F S_ .f32 := constant S_ .f32 0xFF800000#32
  let main_v5 : FVec F S6048x32 .f32 := broadcastInDim S6048x32 ![] bcast_S_S6048x32 main_cst_1
  let main_v6 : IVec S6048x32 1 := cmpf .ogt main_arg1 main_v5
  let main_cst_2 : FVec F S_ .f32 := constant S_ .f32 0x7F800000#32
  let main_v7 : FVec F S6048x32 .f32 := broadcastInDim S6048x32 ![] bcast_S_S6048x32 main_cst_2
  let main_v8 : IVec S6048x32 1 := cmpf .olt main_arg1 main_v7
  let main_v9 : IVec S6048x32 1 := andi main_v6 main_v8
  (main_v4, main_v9)
-- ==== Kernel.lean ====
abbrev S256x8x64 : Shape := ⟨3, ![256, 8, 64]⟩
abbrev S6048x32 : Shape := ⟨2, ![6048, 32]⟩
abbrev S32 : Shape := ⟨1, ![32]⟩
abbrev S64x2016 : Shape := ⟨2, ![64, 2016]⟩
abbrev S2048x64 : Shape := ⟨2, ![2048, 64]⟩
abbrev S1x32 : Shape := ⟨2, ![1, 32]⟩
abbrev S4096x32 : Shape := ⟨2, ![4096, 32]⟩
abbrev S64x32 : Shape := ⟨2, ![64, 32]⟩
abbrev S2016x32 : Shape := ⟨2, ![2016, 32]⟩
abbrev S63x32 : Shape := ⟨2, ![63, 32]⟩
abbrev S62x32 : Shape := ⟨2, ![62, 32]⟩
abbrev S61x32 : Shape := ⟨2, ![61, 32]⟩
abbrev S60x32 : Shape := ⟨2, ![60, 32]⟩
abbrev S59x32 : Shape := ⟨2, ![59, 32]⟩
abbrev S58x32 : Shape := ⟨2, ![58, 32]⟩
abbrev S57x32 : Shape := ⟨2, ![57, 32]⟩
abbrev S56x32 : Shape := ⟨2, ![56, 32]⟩
abbrev S55x32 : Shape := ⟨2, ![55, 32]⟩
abbrev S54x32 : Shape := ⟨2, ![54, 32]⟩
abbrev S53x32 : Shape := ⟨2, ![53, 32]⟩
abbrev S52x32 : Shape := ⟨2, ![52, 32]⟩
abbrev S51x32 : Shape := ⟨2, ![51, 32]⟩
abbrev S50x32 : Shape := ⟨2, ![50, 32]⟩
abbrev S49x32 : Shape := ⟨2, ![49, 32]⟩
abbrev S48x32 : Shape := ⟨2, ![48, 32]⟩
abbrev S47x32 : Shape := ⟨2, ![47, 32]⟩
abbrev S46x32 : Shape := ⟨2, ![46, 32]⟩
abbrev S45x32 : Shape := ⟨2, ![45, 32]⟩
abbrev S44x32 : Shape := ⟨2, ![44, 32]⟩
abbrev S43x32 : Shape := ⟨2, ![43, 32]⟩
abbrev S42x32 : Shape := ⟨2, ![42, 32]⟩
abbrev S41x32 : Shape := ⟨2, ![41, 32]⟩
abbrev S40x32 : Shape := ⟨2, ![40, 32]⟩
abbrev S39x32 : Shape := ⟨2, ![39, 32]⟩
abbrev S38x32 : Shape := ⟨2, ![38, 32]⟩
abbrev S37x32 : Shape := ⟨2, ![37, 32]⟩
abbrev S36x32 : Shape := ⟨2, ![36, 32]⟩
abbrev S35x32 : Shape := ⟨2, ![35, 32]⟩
abbrev S34x32 : Shape := ⟨2, ![34, 32]⟩
abbrev S33x32 : Shape := ⟨2, ![33, 32]⟩
abbrev S32x32 : Shape := ⟨2, ![32, 32]⟩
abbrev S31x32 : Shape := ⟨2, ![31, 32]⟩
abbrev S30x32 : Shape := ⟨2, ![30, 32]⟩
abbrev S29x32 : Shape := ⟨2, ![29, 32]⟩
abbrev S28x32 : Shape := ⟨2, ![28, 32]⟩
abbrev S27x32 : Shape := ⟨2, ![27, 32]⟩
abbrev S26x32 : Shape := ⟨2, ![26, 32]⟩
abbrev S25x32 : Shape := ⟨2, ![25, 32]⟩
abbrev S24x32 : Shape := ⟨2, ![24, 32]⟩
abbrev S23x32 : Shape := ⟨2, ![23, 32]⟩
abbrev S22x32 : Shape := ⟨2, ![22, 32]⟩
abbrev S21x32 : Shape := ⟨2, ![21, 32]⟩
abbrev S20x32 : Shape := ⟨2, ![20, 32]⟩
abbrev S19x32 : Shape := ⟨2, ![19, 32]⟩
abbrev S18x32 : Shape := ⟨2, ![18, 32]⟩
abbrev S17x32 : Shape := ⟨2, ![17, 32]⟩
abbrev S16x32 : Shape := ⟨2, ![16, 32]⟩
abbrev S15x32 : Shape := ⟨2, ![15, 32]⟩
abbrev S14x32 : Shape := ⟨2, ![14, 32]⟩
abbrev S13x32 : Shape := ⟨2, ![13, 32]⟩
abbrev S12x32 : Shape := ⟨2, ![12, 32]⟩
abbrev S11x32 : Shape := ⟨2, ![11, 32]⟩
abbrev S10x32 : Shape := ⟨2, ![10, 32]⟩
abbrev S9x32 : Shape := ⟨2, ![9, 32]⟩
abbrev S8x32 : Shape := ⟨2, ![8, 32]⟩
abbrev S7x32 : Shape := ⟨2, ![7, 32]⟩
abbrev S6x32 : Shape := ⟨2, ![6, 32]⟩
abbrev S5x32 : Shape := ⟨2, ![5, 32]⟩
abbrev S4x32 : Shape := ⟨2, ![4, 32]⟩
abbrev S3x32 : Shape := ⟨2, ![3, 32]⟩
abbrev S2x32 : Shape := ⟨2, ![2, 32]⟩
abbrev S64x2048 : Shape := ⟨2, ![64, 2048]⟩
abbrev S2048x32 : Shape := ⟨2, ![2048, 32]⟩
abbrev S512x64 : Shape := ⟨2, ![512, 64]⟩
abbrev S512x32 : Shape := ⟨2, ![512, 32]⟩
abbrev S512x2048 : Shape := ⟨2, ![512, 2048]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x8x32 : Shape := ⟨3, ![256, 8, 32]⟩

abbrev nBuf : Space → Nat
  | .hbm => 11
  | .vmem => 11
  | .smem => 0
  | _ => 0

abbrev bufTy : (tb : Table) → Fin (tcTables nBuf tb) → BufTy
  | .hbm, ⟨0, _⟩ => ⟨S256x8x64, .f32⟩
  | .hbm, ⟨1, _⟩ => ⟨S6048x32, .f32⟩
  | .hbm, ⟨2, _⟩ => ⟨S32, .f32⟩
  | .hbm, ⟨3, _⟩ => ⟨S64x2016, .f32⟩
  | .hbm, ⟨4, _⟩ => ⟨S2048x64, .f32⟩
  | .hbm, ⟨5, _⟩ => ⟨S1x32, .f32⟩
  | .hbm, ⟨6, _⟩ => ⟨S4096x32, .f32⟩
  | .hbm, ⟨7, _⟩ => ⟨S64x32, .f32⟩
  | .hbm, ⟨8, _⟩ => ⟨S64x2048, .f32⟩
  | .hbm, ⟨9, _⟩ => ⟨S2048x32, .f32⟩
  | .hbm, ⟨10, _⟩ => ⟨S256x8x32, .f32⟩
  | .local _ .vmem, ⟨0, _⟩ => ⟨S6048x32, .f32⟩
  | .local _ .vmem, ⟨1, _⟩ => ⟨S64x2016, .f32⟩
  | .local _ .vmem, ⟨2, _⟩ => ⟨S4096x32, .f32⟩
  | .local _ .vmem, ⟨3, _⟩ => ⟨S64x32, .f32⟩
  | .local _ .vmem, ⟨4, _⟩ => ⟨S512x64, .f32⟩
  | .local _ .vmem, ⟨5, _⟩ => ⟨S512x64, .f32⟩
  | .local _ .vmem, ⟨6, _⟩ => ⟨S64x2048, .f32⟩
  | .local _ .vmem, ⟨7, _⟩ => ⟨S64x32, .f32⟩
  | .local _ .vmem, ⟨8, _⟩ => ⟨S1x32, .f32⟩
  | .local _ .vmem, ⟨9, _⟩ => ⟨S512x32, .f32⟩
  | .local _ .vmem, ⟨10, _⟩ => ⟨S512x32, .f32⟩
  | _, _ => ⟨S256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := .none

abbrev stage0_0 : Fin 1 → Memref sig .tc .vmem S6048x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2016 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S256x8x64 : Shape := ⟨3, ![256, 8, 64]⟩
abbrev S6048x32 : Shape := ⟨2, ![6048, 32]⟩
abbrev S32 : Shape := ⟨1, ![32]⟩
abbrev S2016 : Shape := ⟨1, ![2016]⟩
abbrev S_ : Shape := ⟨0, ![]⟩
abbrev S2016x1 : Shape := ⟨2, ![2016, 1]⟩
abbrev S1 : Shape := ⟨1, ![1]⟩
abbrev S1x1 : Shape := ⟨2, ![1, 1]⟩
abbrev S256x8x2016 : Shape := ⟨3, ![256, 8, 2016]⟩
abbrev S256x8x6048 : Shape := ⟨3, ![256, 8, 6048]⟩
abbrev S256x8x32 : Shape := ⟨3, ![256, 8, 32]⟩
abbrev S1x1x32 : Shape := ⟨3, ![1, 1, 32]⟩

abbrev nBuf : Space → Nat
  | .hbm => 66
  | .vmem => 0
  | .smem => 0
  | _ => 0

abbrev bufTy : (tb : Table) → Fin (tcTables nBuf tb) → BufTy
  | .hbm, ⟨0, _⟩ => ⟨S256x8x64, .f32⟩
  | .hbm, ⟨1, _⟩ => ⟨S6048x32, .f32⟩
  | .hbm, ⟨2, _⟩ => ⟨S32, .f32⟩
  | .hbm, ⟨3, _⟩ => ⟨S2016, .i32⟩
  | .hbm, ⟨4, _⟩ => ⟨S2016, .i32⟩
  | .hbm, ⟨5, _⟩ => ⟨S_, .i32⟩
  | .hbm, ⟨6, _⟩ => ⟨S2016, .i32⟩
  | .hbm, ⟨7, _⟩ => ⟨S2016, .i1⟩
  | .hbm, ⟨8, _⟩ => ⟨S_, .i32⟩
  | .hbm, ⟨9, _⟩ => ⟨S2016, .i32⟩
  | .hbm, ⟨10, _⟩ => ⟨S2016, .i32⟩
  | .hbm, ⟨11, _⟩ => ⟨S2016, .i32⟩
  | .hbm, ⟨12, _⟩ => ⟨S2016x1, .i32⟩
  | .hbm, ⟨13, _⟩ => ⟨S1, .i32⟩
  | .hbm, ⟨14, _⟩ => ⟨S_, .i32⟩
  | .hbm, ⟨15, _⟩ => ⟨S2016x1, .i32⟩
  | .hbm, ⟨16, _⟩ => ⟨S2016x1, .i1⟩
  | .hbm, ⟨17, _⟩ => ⟨S1x1, .i32⟩
  | .hbm, ⟨18, _⟩ => ⟨S2016x1, .i32⟩
  | .hbm, ⟨19, _⟩ => ⟨S2016x1, .i1⟩
  | .hbm, ⟨20, _⟩ => ⟨S2016x1, .i1⟩
  | .hbm, ⟨21, _⟩ => ⟨S_, .i1⟩
  | .hbm, ⟨22, _⟩ => ⟨S2016, .i1⟩
  | .hbm, ⟨23, _⟩ => ⟨S256x8x2016, .f32⟩
  | .hbm, ⟨24, _⟩ => ⟨S256x8x2016, .i1⟩
  | .hbm, ⟨25, _⟩ => ⟨S_, .f32⟩
  | .hbm, ⟨26, _⟩ => ⟨S256x8x2016, .f32⟩
  | .hbm, ⟨27, _⟩ => ⟨S256x8x2016, .f32⟩
  | .hbm, ⟨28, _⟩ => ⟨S_, .i32⟩
  | .hbm, ⟨29, _⟩ => ⟨S2016, .i32⟩
  | .hbm, ⟨30, _⟩ => ⟨S2016, .i1⟩
  | .hbm, ⟨31, _⟩ => ⟨S_, .i32⟩
  | .hbm, ⟨32, _⟩ => ⟨S2016, .i32⟩
  | .hbm, ⟨33, _⟩ => ⟨S2016, .i32⟩
  | .hbm, ⟨34, _⟩ => ⟨S2016, .i32⟩
  | .hbm, ⟨35, _⟩ => ⟨S2016x1, .i32⟩
  | .hbm, ⟨36, _⟩ => ⟨S1, .i32⟩
  | .hbm, ⟨37, _⟩ => ⟨S_, .i32⟩
  | .hbm, ⟨38, _⟩ => ⟨S2016x1, .i32⟩
  | .hbm, ⟨39, _⟩ => ⟨S2016x1, .i1⟩
  | .hbm, ⟨40, _⟩ => ⟨S1x1, .i32⟩
  | .hbm, ⟨41, _⟩ => ⟨S2016x1, .i32⟩
  | .hbm, ⟨42, _⟩ => ⟨S2016x1, .i1⟩
  | .hbm, ⟨43, _⟩ => ⟨S2016x1, .i1⟩
  | .hbm, ⟨44, _⟩ => ⟨S_, .i1⟩
  | .hbm, ⟨45, _⟩ => ⟨S2016, .i1⟩
  | .hbm, ⟨46, _⟩ => ⟨S256x8x2016, .f32⟩
  | .hbm, ⟨47, _⟩ => ⟨S256x8x2016, .i1⟩
  | .hbm, ⟨48, _⟩ => ⟨S_, .f32⟩
  | .hbm, ⟨49, _⟩ => ⟨S256x8x2016, .f32⟩
  | .hbm, ⟨50, _⟩ => ⟨S256x8x2016, .f32⟩
  | .hbm, ⟨51, _⟩ => ⟨S256x8x2016, .f32⟩
  | .hbm, ⟨52, _⟩ => ⟨S256x8x2016, .f32⟩
  | .hbm, ⟨53, _⟩ => ⟨S256x8x2016, .f32⟩
  | .hbm, ⟨54, _⟩ => ⟨S256x8x2016, .f32⟩
  | .hbm, ⟨55, _⟩ => ⟨S256x8x2016, .f32⟩
  | .hbm, ⟨56, _⟩ => ⟨S_, .f32⟩
  | .hbm, ⟨57, _⟩ => ⟨S256x8x2016, .f32⟩
  | .hbm, ⟨58, _⟩ => ⟨S256x8x2016, .f32⟩
  | .hbm, ⟨59, _⟩ => ⟨S256x8x2016, .f32⟩
  | .hbm, ⟨60, _⟩ => ⟨S256x8x2016, .f32⟩
  | .hbm, ⟨61, _⟩ => ⟨S256x8x6048, .f32⟩
  | .hbm, ⟨62, _⟩ => ⟨S256x8x32, .f32⟩
  | .hbm, ⟨63, _⟩ => ⟨S1x1x32, .f32⟩
  | .hbm, ⟨64, _⟩ => ⟨S256x8x32, .f32⟩
  | .hbm, ⟨65, _⟩ => ⟨S256x8x32, .f32⟩
  | _, _ => ⟨S256x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_cst : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩

abbrev nD : Nat := 1
abbrev τ : Topo := Topo.v7x

variable {F : FTy → Type} [FloatOps F]
-- ==== Proof.Finite.lean ====
/-
  What the precondition says: every input and every weight lies strictly between the two infinities.
-/
module

public import proofs.«01_k».proof.Pre_finite
public import Idealize.ShloMosaic.Lib.ValueIdx

@[expose] public section

noncomputable section

namespace Cert.PairForm

open Idealize.ShloMosaic

/-- The predicate's side conditions. -/
theorem finite_facts : Cert.Pre_finite.Facts := ⟨by decide, by decide⟩

theorem ofBits_pos_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-- Both comparisons hold of a number exactly between the infinities. -/
theorem between (x : EReal) (h : Ideal.cmp .ogt x (Ideal.ofBits .f32 0xFF800000#32)
    &&& Ideal.cmp .olt x (Ideal.ofBits .f32 0x7F800000#32) = 1#1) : x ≠ ⊤ ∧ x ≠ ⊥ := by
  rw [ofBits_pos_inf, ofBits_neg_inf] at h
  constructor
  · rintro rfl
    simp [Ideal.cmp] at h
  · rintro rfl
    simp [Ideal.cmp] at h

variable [Cert.Pre_finite.Facts] (x : FVec Ideal Cert.Pre_finite.S256x8x64 .f32)
  (w : FVec Ideal Cert.Pre_finite.S6048x32 .f32) (b : FVec Ideal Cert.Pre_finite.S32 .f32)

theorem finite_inputs (h : (Cert.Pre_finite.fn (F := Ideal) x w b).1 = fun _ => 1#1) (i : Cert.Pre_finite.S256x8x64.Idx) :
    x i ≠ (⊤ : EReal) ∧ x i ≠ (⊥ : EReal) := between (x i) (congrFun h i)

theorem finite_weights (h : (Cert.Pre_finite.fn (F := Ideal) x w b).2 = fun _ => 1#1) (i : Cert.Pre_finite.S6048x32.Idx) :
    w i ≠ (⊤ : EReal) ∧ w i ≠ (⊥ : EReal) := between (w i) (congrFun h i)

end Cert.PairForm

end
-- ==== Proof.Alg.lean ====
/-
  The arithmetic of the certificate, without any program: 2016 pairs of columns `(row p, col p)` with
  `row p < col p < 64`, each ordered pair met once. The three soft logic gates of a pair, weighed and added up
  (`plainSum`), are a quadratic form plus a linear form in the inputs (`formSum`), over the reals
  (`formSum_eq_plainSum`) and so for finite extended reals (`ereal_form_eq_plain`).
-/
module

public import Mathlib.Data.EReal.Operations
public import Mathlib.Algebra.BigOperators.Fin
public import Mathlib.Algebra.BigOperators.Ring.Finset
public import Mathlib.Tactic.Ring
public import Mathlib.Tactic.Lift

@[expose] public section

open scoped BigOperators

namespace Cert.PairForm

/-- An enumeration of the pairs `i < j < 64`: every pair once. -/
structure PairList (row col : Fin 2016 → Fin 64) : Prop where
  lt : ∀ p, row p < col p
  inj : ∀ p q, row p = row q → col p = col q → p = q
  surj : ∀ i j, i < j → ∃ p, row p = i ∧ col p = j

variable {row col : Fin 2016 → Fin 64}

/-- A sum along the enumeration is the sum over the strict upper triangle. -/
theorem PairList.sum {M : Type*} [AddCommMonoid M] (h : PairList row col) (f : Fin 64 → Fin 64 → M) :
    ∑ p, f (row p) (col p) = ∑ i, ∑ j, if i < j then f i j else 0 := by
  rw [← Fintype.sum_prod_type' (f := fun i j => if i < j then f i j else 0), ← Finset.sum_filter]
  refine Finset.sum_bij (fun p _ => (row p, col p)) ?_ ?_ ?_ ?_
  · intro p _; simpa using h.lt p
  · intro p _ q _ e; exact h.inj p q (congrArg Prod.fst e) (congrArg Prod.snd e)
  · rintro ⟨i, j⟩ hij
    obtain ⟨p, hi, hj⟩ := h.surj i j (by simpa using hij)
    exact ⟨p, Finset.mem_univ _, by rw [hi, hj]⟩
  · intro p _; rfl

/-- How often column `n` occurs in pair `p`. -/
def occ (row col : Fin 2016 → Fin 64) (n : Fin 64) (p : Fin 2016) : ℝ :=
  (if row p = n then 1 else 0) + (if col p = n then 1 else 0)

/-- The linear form: weighing the columns by the pairs they occur in is adding up each pair's two entries. -/
theorem linear_eq (x : Fin 64 → ℝ) (C : Fin 2016 → ℝ) :
    ∑ n, x n * ∑ p, occ row col n p * C p = ∑ p, (x (row p) + x (col p)) * C p := by
  simp only [Finset.mul_sum]
  rw [Finset.sum_comm]
  refine Finset.sum_congr rfl fun p _ => ?_
  simp only [occ, add_mul, mul_add, Finset.sum_add_distrib, ite_mul, one_mul, zero_mul, mul_ite, mul_zero,
    Finset.sum_ite_eq, Finset.mem_univ, if_true]

/-- The quadratic form: a strict upper triangular matrix holding `A p` at pair `p`. -/
theorem quadratic_eq (h : PairList row col) (x : Fin 64 → ℝ) (A : Fin 2016 → ℝ) (U : Fin 64 → Fin 64 → ℝ)
    (hU : ∀ p, U (row p) (col p) = A p) (hz : ∀ j k, ¬ j < k → U j k = 0) :
    ∑ k, (∑ j, x j * U j k) * x k = ∑ p, x (row p) * x (col p) * A p := by
  have e := h.sum fun i j => x i * x j * U i j
  simp only [hU] at e
  rw [e, Finset.sum_comm]
  refine Finset.sum_congr rfl fun k _ => ?_
  rw [Finset.sum_mul]
  refine Finset.sum_congr rfl fun j _ => ?_
  by_cases hjk : j < k
  · rw [if_pos hjk]; ring
  · rw [if_neg hjk, hz j k hjk]; ring

/-- Both forms together are the three gates' weighed sums. -/
theorem form_eq_plain (h : PairList row col) (x : Fin 64 → ℝ) (wa wo wx : Fin 2016 → ℝ) (U : Fin 64 → Fin 64 → ℝ)
    (hU : ∀ p, U (row p) (col p) = wa p - wo p - 2 * wx p) (hz : ∀ j k, ¬ j < k → U j k = 0) :
    ∑ k, (∑ j, x j * U j k) * x k + ∑ n, x n * ∑ p, occ row col n p * (wo p + wx p)
      = ∑ p, x (row p) * x (col p) * wa p
        + ∑ p, (x (row p) + x (col p) - x (row p) * x (col p)) * wo p
        + ∑ p, (x (row p) + x (col p) - 2 * x (row p) * x (col p)) * wx p := by
  rw [quadratic_eq h x _ U hU hz, linear_eq, ← Finset.sum_add_distrib, ← Finset.sum_add_distrib,
    ← Finset.sum_add_distrib]
  exact Finset.sum_congr rfl fun p _ => by ring

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity for extended reals that are finite, in the operations of the ideal instance. -/
theorem ereal_form_eq_plain (h : PairList row col) (x : Fin 64 → EReal) (wa wo wx : Fin 2016 → EReal)
    (U E : Fin 64 → Fin 64 → EReal) (O : Fin 64 → Fin 2016 → EReal)
    (hx : ∀ i, x i ≠ ⊤ ∧ x i ≠ ⊥) (ha : ∀ p, wa p ≠ ⊤ ∧ wa p ≠ ⊥) (ho : ∀ p, wo p ≠ ⊤ ∧ wo p ≠ ⊥)
    (hw : ∀ p, wx p ≠ ⊤ ∧ wx p ≠ ⊥)
    (hU : ∀ p, U (row p) (col p) = wa p - wo p - ((2 : ℝ) : EReal) * wx p) (hz : ∀ j k, ¬ j < k → U j k = 0)
    (hE : ∀ n k, E n k = if k = n then 1 else 0)
    (hO : ∀ n p, O n p = ((occ row col n p : ℝ) : EReal)) :
    ∑ k, (∑ j, x j * U j k) * (∑ n, x n * E n k) + ∑ n, x n * ∑ p, O n p * (wo p + wx p)
      = ∑ p, x (row p) * x (col p) * wa p
        + ∑ p, (x (row p) + x (col p) - x (row p) * x (col p)) * wo p
        + ∑ p, (x (row p) + x (col p) - ((2 : ℝ) : EReal) * x (row p) * x (col p)) * wx p := by
  lift x to Fin 64 → ℝ using hx
  lift wa to Fin 2016 → ℝ using ha
  lift wo to Fin 2016 → ℝ using ho
  lift wx to Fin 2016 → ℝ using hw
  have hUr : ∀ j k, U j k ≠ ⊤ ∧ U j k ≠ ⊥ := by
    intro j k
    by_cases hjk : j < k
    · obtain ⟨p, rfl, rfl⟩ := h.surj j k hjk
      rw [hU p, ← EReal.coe_mul, ← EReal.coe_sub, ← EReal.coe_sub]
      exact ⟨EReal.coe_ne_top _, EReal.coe_ne_bot _⟩
    · rw [hz j k hjk, ← EReal.coe_zero]
      exact ⟨EReal.coe_ne_top _, EReal.coe_ne_bot _⟩
  lift U to Fin 64 → Fin 64 → ℝ using hUr
  have hsel : ∀ k, ∑ n, (x n : EReal) * E n k = (x k : EReal) := by
    intro k
    simp only [hE, mul_ite, mul_one, mul_zero, Finset.sum_ite_eq, Finset.mem_univ, if_true]
  simp only [hsel, hO, ← EReal.coe_mul, ← EReal.coe_add, ← EReal.coe_sub, ← coe_sum]
  refine congrArg _ (form_eq_plain h x wa wo wx U (fun p => ?_) fun j k hjk => ?_)
  · have := hU p
    rw [← EReal.coe_mul, ← EReal.coe_sub, ← EReal.coe_sub] at this
    exact EReal.coe_injective this
  · exact EReal.coe_injective ((hz j k hjk).trans EReal.coe_zero.symm)

/-- Folding a sum once: the second half added onto the first. -/
theorem sum_fold {M : Type*} [AddCommMonoid M] (n : ℕ) (f : ℕ → M) :
    ∑ i ∈ Finset.range (n + n), f i = ∑ i ∈ Finset.range n, (f i + f (n + i)) := by
  rw [Finset.sum_range_add, Finset.sum_add_distrib]

/-- Folding by halves adds up all sixty-four terms. -/
theorem sum_fold64 {M : Type*} [AddCommMonoid M] (f0 f1 f2 f3 f4 f5 : ℕ → M)
    (h1 : ∀ i, f1 i = f0 i + f0 (32 + i)) (h2 : ∀ i, f2 i = f1 i + f1 (16 + i)) (h3 : ∀ i, f3 i = f2 i + f2 (8 + i))
    (h4 : ∀ i, f4 i = f3 i + f3 (4 + i)) (h5 : ∀ i, f5 i = f4 i + f4 (2 + i)) :
    f5 0 + f5 1 = ∑ i : Fin 64, f0 i := by
  rw [Fin.sum_univ_eq_sum_range, show 64 = 32 + 32 from rfl, sum_fold 32 f0]
  simp only [← h1]
  rw [show 32 = 16 + 16 from rfl, sum_fold 16 f1]
  simp only [← h2]
  rw [show 16 = 8 + 8 from rfl, sum_fold 8 f2]
  simp only [← h3]
  rw [show 8 = 4 + 4 from rfl, sum_fold 4 f3]
  simp only [← h4]
  rw [show 4 = 2 + 2 from rfl, sum_fold 2 f4]
  simp only [← h5]
  rw [Finset.sum_range_succ, Finset.sum_range_one]

end Cert.PairForm
-- ==== Proof.Arrays.lean ====
/-
  What the two calls leave in their arrays, read through the buffers between them. The first call is one block, so its
  two results are the two outputs of its body. The second call's four blocks are the four quarters of its rows, so row
  `R` of its result is row `R` mod 512 of the block computed from quarter `R / 512` of the input.
-/
module

public import proofs.«01_k».proof.Proof.Gen.KernelIdeal.Frame
public import Idealize.ShloMosaic.Lib.ValueIdx
public import Idealize.ShloMosaic.Lib.Pipeline.Value

@[expose] public section

set_option maxRecDepth 16384

noncomputable section

namespace Cert.KernelIdeal.Gen

open Idealize.ShloMosaic Idealize.ShloMosaic.TcCoe Idealize.ShloMosaic.ValueIdx
open Idealize.ShloMosaic.Pipeline (Dat)

/-! ## The first call -/

section First

theorem read0_0 (t : Fin cfg0.N) (X : FVec Ideal S6048x32 .f32) : ((cfg0.win 0).blk t).view.read (Elt Ideal) X = X := by
  funext i
  refine congrArg X (funext fun a => Fin.ext ?_)
  match a with
  | ⟨0, _⟩ => show 0 * 6048 + 1 * (i 0).val = (i 0).val; omega
  | ⟨1, _⟩ => show 0 * 32 + 1 * (i 1).val = (i 1).val; omega

theorem read0_1 (t : Fin cfg0.N) (X : FVec Ideal S64x2016 .f32) : ((cfg0.win 1).blk t).view.read (Elt Ideal) X = X := by
  funext i
  refine congrArg X (funext fun a => Fin.ext ?_)
  match a with
  | ⟨0, _⟩ => show 0 * 64 + 1 * (i 0).val = (i 0).val; omega
  | ⟨1, _⟩ => show 0 * 2016 + 1 * (i 1).val = (i 1).val; omega

theorem read0_2 (t : Fin cfg0.N) (X : FVec Ideal S4096x32 .f32) : ((cfg0.win 2).blk t).view.read (Elt Ideal) X = X := by
  funext i
  refine congrArg X (funext fun a => Fin.ext ?_)
  match a with
  | ⟨0, _⟩ => show 0 * 4096 + 1 * (i 0).val = (i 0).val; omega
  | ⟨1, _⟩ => show 0 * 32 + 1 * (i 1).val = (i 1).val; omega

theorem read0_3 (t : Fin cfg0.N) (X : FVec Ideal S64x32 .f32) : ((cfg0.win 3).blk t).view.read (Elt Ideal) X = X := by
  funext i
  refine congrArg X (funext fun a => Fin.ext ?_)
  match a with
  | ⟨0, _⟩ => show 0 * 64 + 1 * (i 0).val = (i 0).val; omega
  | ⟨1, _⟩ => show 0 * 32 + 1 * (i 1).val = (i 1).val; omega

variable (V : (c : Dev nD) → (b : Ref sig .tc) → Buf (Elt Ideal) ((c : Thread nD τ).loc b))

/-- Every position of the folded quadratic weights lies in the one block. -/
theorem mem_block0_2 (t : Fin cfg0.N) (i : S4096x32.Idx) : i ∈ ((cfg0.win 2).blk t).view.set := by
  show i ∈ ((View.whole main_v2_0).slice (win0_2.rect t)).set
  rw [View.set_slice_whole, Rect.mem_set_unit]
  have h0 : (i 0 : Nat) < 4096 := (i 0).isLt
  have h1 : (i 1 : Nat) < 32 := (i 1).isLt
  intro a
  match a with
  | ⟨0, _⟩ => show 0 * 4096 ≤ (i 0 : Nat) ∧ (i 0 : Nat) < 0 * 4096 + 4096; omega
  | ⟨1, _⟩ => show 0 * 32 ≤ (i 1 : Nat) ∧ (i 1 : Nat) < 0 * 32 + 32; omega

/-- Every position of the folded linear weights lies in the one block. -/
theorem mem_block0_3 (t : Fin cfg0.N) (i : S64x32.Idx) : i ∈ ((cfg0.win 3).blk t).view.set := by
  show i ∈ ((View.whole main_v2_1).slice (win0_3.rect t)).set
  rw [View.set_slice_whole, Rect.mem_set_unit]
  have h0 : (i 0 : Nat) < 64 := (i 0).isLt
  have h1 : (i 1 : Nat) < 32 := (i 1).isLt
  intro a
  match a with
  | ⟨0, _⟩ => show 0 * 64 ≤ (i 0 : Nat) ∧ (i 0 : Nat) < 0 * 64 + 64; omega
  | ⟨1, _⟩ => show 0 * 32 ≤ (i 1 : Nat) ∧ (i 1 : Nat) < 0 * 32 + 32; omega

/-- The first call leaves its body's first output in the array of folded quadratic weights. -/
theorem final0_2 (c : Dev nD) : (dat0 V c).arrAt 2 cfg0.N = (outsAt0 V c t0_0).1 := by
  refine (dat0 V c).arrAt_eq_of_cover 2 _ (fun t _ => ?_) (fun i => ⟨t0_0, flush0_2 t0_0, mem_block0_2 t0_0 i⟩)
  rcases fin_N0 t with rfl
  refine Eq.trans ?_ (read0_2 t0_0 _).symm
  show (cfg0.win 2).cut (grid0.coords t0_0) ((dat0 V c).after 2 t0_0) = _
  rw [after0_2]
  rfl

/-- The first call leaves its body's second output in the array of folded linear weights. -/
theorem final0_3 (c : Dev nD) : (dat0 V c).arrAt 3 cfg0.N = (outsAt0 V c t0_0).2 := by
  refine (dat0 V c).arrAt_eq_of_cover 3 _ (fun t _ => ?_) (fun i => ⟨t0_0, flush0_3 t0_0, mem_block0_3 t0_0 i⟩)
  rcases fin_N0 t with rfl
  refine Eq.trans ?_ (read0_3 t0_0 _).symm
  show (cfg0.win 3).cut (grid0.coords t0_0) ((dat0 V c).after 3 t0_0) = _
  rw [after0_3]
  rfl

end First

/-! ## The second call -/

section Second

theorem read1_0 (t : Fin cfg1.N) (X : FVec Ideal S2048x64 .f32) (r : Fin 512) (j : Fin 64) (R : Fin 2048)
    (hR : R.val = 512 * t.val + r.val) : ((cfg1.win 0).blk t).view.read (Elt Ideal) X (ix2 r j) = X (ix2 R j) := by
  refine congrArg X (funext fun a => Fin.ext ?_)
  have e : win1_0.index t 0 = t.val ∧ win1_0.index t 1 = 0 := by
    rcases fin_N1 t with rfl | rfl | rfl | rfl <;> decide +kernel
  match a with
  | ⟨0, _⟩ => show win1_0.index t 0 * 512 + 1 * r.val = R.val; rw [e.1]; omega
  | ⟨1, _⟩ => show win1_0.index t 1 * 64 + 1 * j.val = j.val; rw [e.2]; omega

theorem read1_1 (t : Fin cfg1.N) (X : FVec Ideal S64x2048 .f32) : ((cfg1.win 1).blk t).view.read (Elt Ideal) X = X := by
  funext i
  refine congrArg X (funext fun a => Fin.ext ?_)
  match a with
  | ⟨0, _⟩ => show 0 * 64 + 1 * (i 0).val = (i 0).val; omega
  | ⟨1, _⟩ => show 0 * 2048 + 1 * (i 1).val = (i 1).val; omega

theorem read1_2 (t : Fin cfg1.N) (X : FVec Ideal S64x32 .f32) : ((cfg1.win 2).blk t).view.read (Elt Ideal) X = X := by
  funext i
  refine congrArg X (funext fun a => Fin.ext ?_)
  match a with
  | ⟨0, _⟩ => show 0 * 64 + 1 * (i 0).val = (i 0).val; omega
  | ⟨1, _⟩ => show 0 * 32 + 1 * (i 1).val = (i 1).val; omega

theorem read1_3 (t : Fin cfg1.N) (X : FVec Ideal S1x32 .f32) : ((cfg1.win 3).blk t).view.read (Elt Ideal) X = X := by
  funext i
  refine congrArg X (funext fun a => Fin.ext ?_)
  match a with
  | ⟨0, _⟩ => show 0 * 1 + 1 * (i 0).val = (i 0).val; omega
  | ⟨1, _⟩ => show 0 * 32 + 1 * (i 1).val = (i 1).val; omega

theorem read1_4 (t : Fin cfg1.N) (X : FVec Ideal S2048x32 .f32) (r : Fin 512) (j : Fin 32) (R : Fin 2048)
    (hR : R.val = 512 * t.val + r.val) : ((cfg1.win 4).blk t).view.read (Elt Ideal) X (ix2 r j) = X (ix2 R j) := by
  refine congrArg X (funext fun a => Fin.ext ?_)
  have e : win1_4.index t 0 = t.val ∧ win1_4.index t 1 = 0 := by
    rcases fin_N1 t with rfl | rfl | rfl | rfl <;> decide +kernel
  match a with
  | ⟨0, _⟩ => show win1_4.index t 0 * 512 + 1 * r.val = R.val; rw [e.1]; omega
  | ⟨1, _⟩ => show win1_4.index t 1 * 32 + 1 * j.val = j.val; rw [e.2]; omega

/-- A row of the result lies in the block of its quarter. -/
theorem mem_block1_4 (t : Fin cfg1.N) (i : S2048x32.Idx) (h : 512 * t.val ≤ (i 0).val ∧ (i 0).val < 512 * t.val + 512) :
    i ∈ ((cfg1.win 4).blk t).view.set := by
  show i ∈ ((View.whole main_v4).slice (win1_4.rect t)).set
  rw [View.set_slice_whole, Rect.mem_set_unit]
  have h1 : (i 1 : Nat) < 32 := (i 1).isLt
  have e : win1_4.index t 0 = t.val ∧ win1_4.index t 1 = 0 := by
    rcases fin_N1 t with rfl | rfl | rfl | rfl <;> decide +kernel
  intro a
  match a with
  | ⟨0, _⟩ => show win1_4.index t 0 * 512 ≤ (i 0 : Nat) ∧ (i 0 : Nat) < win1_4.index t 0 * 512 + 512; rw [e.1]; omega
  | ⟨1, _⟩ => show win1_4.index t 1 * 32 ≤ (i 1 : Nat) ∧ (i 1 : Nat) < win1_4.index t 1 * 32 + 32; rw [e.2]; omega

variable (V : (c : Dev nD) → (b : Ref sig .tc) → Buf (Elt Ideal) ((c : Thread nD τ).loc b))

/-- The quarter a row of the result belongs to. -/
def quarter (R : Fin 2048) : Fin cfg1.N := ⟨R.val / 512, by rw [show cfg1.N = 4 from N_1]; omega⟩

/-- The second call's result as one array: each row is taken from the block of its quarter. -/
def stacked (c : Dev nD) : FVec Ideal S2048x32 .f32 := fun i =>
  out1_4 (iblk1 V c 0 (quarter (i 0))) (iblk1 V c 1 (quarter (i 0))) (iblk1 V c 2 (quarter (i 0)))
    (iblk1 V c 3 (quarter (i 0))) (ix2 (⟨(i 0).val % 512, Nat.mod_lt _ (by decide)⟩ : Fin 512) (i 1))

theorem stacked_apply (c : Dev nD) (t : Fin cfg1.N) (r : Fin 512) (q : Fin 32) (R : Fin 2048)
    (hR : R.val = 512 * t.val + r.val) : stacked V c (ix2 R q)
      = out1_4 (iblk1 V c 0 t) (iblk1 V c 1 t) (iblk1 V c 2 t) (iblk1 V c 3 t) (ix2 r q) := by
  have ht : quarter R = t := Fin.ext (show R.val / 512 = t.val by omega)
  have hr : (⟨R.val % 512, Nat.mod_lt _ (by decide)⟩ : Fin 512) = r := Fin.ext (show R.val % 512 = r.val by omega)
  show out1_4 (iblk1 V c 0 (quarter R)) (iblk1 V c 1 (quarter R)) (iblk1 V c 2 (quarter R))
    (iblk1 V c 3 (quarter R)) (ix2 (⟨R.val % 512, Nat.mod_lt _ (by decide)⟩ : Fin 512) q) = _
  rw [ht, hr]

/-- The second call leaves the stacked blocks in its result. -/
theorem final1_4 (c : Dev nD) : (dat1 V c).arrAt 4 cfg1.N = stacked V c := by
  refine (dat1 V c).arrAt_eq_of_cover 4 _ (fun t _ => ?_) (fun i => ⟨quarter (i 0), flush1_4 _, mem_block1_4 _ i ?_⟩)
  · have hN : t.val < 4 := lt_of_lt_of_eq t.isLt N_1
    funext i
    obtain ⟨r, q, rfl⟩ : ∃ (r : Fin 512) (q : Fin 32), i = ix2 r q := ⟨i 0, i 1, eq_ix2 i⟩
    refine Eq.trans ?_ (read1_4 t _ r q ⟨512 * t.val + r.val, by omega⟩ rfl).symm
    rw [stacked_apply V c t r q ⟨512 * t.val + r.val, by omega⟩ rfl]
    show (cfg1.win 4).cut (grid1.coords t) ((dat1 V c).after 4 t) (ix2 r q) = _
    rw [after1_4]
    rfl
  · have h0 : (i 0 : Nat) < 2048 := (i 0).isLt
    show 512 * ((i 0).val / 512) ≤ (i 0).val ∧ (i 0).val < 512 * ((i 0).val / 512) + 512
    omega

end Second

/-! ## The buffers between the calls -/

section Between

variable (m : (ℓ : Loc nD τ sig) → Buf (Elt Ideal) ℓ) (ρ : Dev nD → PrngReg)

/-- The table of pair incidences, as the first call finds it. -/
theorem W1_cst (c : Dev nD) : W1 m ρ c (Proc.devRef .tc main_cst)
    = fun i => FloatOps.ofBits (F := Ideal) .f32 (lit0 (S64x2016.rowMajor i)) := by
  show StableHlo.after hostOps0 (W0 m ρ c) (Proc.devRef .tc main_cst) = _
  after_results
  try rfl

/-- The inputs with their two leading axes merged. -/
theorem W1_v0 (c : Dev nD) : W1 m ρ c (Proc.devRef .tc main_v0)
    = shapeCast S2048x64 (m ((c : Thread nD τ).loc main_arg0)) shapeCasts_S256x8x64_S2048x64 := by
  show StableHlo.after hostOps0 (W0 m ρ c) (Proc.devRef .tc main_v0) = _
  after_results
  try rfl

/-- The bias as one row. -/
theorem W1_v1 (c : Dev nD) : W1 m ρ c (Proc.devRef .tc main_v1)
    = shapeCast S1x32 (m ((c : Thread nD τ).loc main_arg2)) shapeCasts_S32_S1x32 := by
  show StableHlo.after hostOps0 (W0 m ρ c) (Proc.devRef .tc main_v1) = _
  after_results
  try rfl

/-- The folded quadratic weights, laid out as the second call reads them. -/
theorem W3_v3 (c : Dev nD) : W3 m ρ c (Proc.devRef .tc main_v3)
    = shapeCast S64x2048 (W2 m ρ c (Proc.devRef .tc main_v2_0)) shapeCasts_S4096x32_S64x2048 := by
  show StableHlo.after hostOps1 (W2 m ρ c) (Proc.devRef .tc main_v3) = _
  after_results
  try rfl

/-- The result with its leading axis split again. -/
theorem W5_v5 (c : Dev nD) : W5 m ρ c (Proc.devRef .tc main_v5)
    = shapeCast S256x8x32 (W4 m ρ c (Proc.devRef .tc main_v4)) shapeCasts_S2048x32_S256x8x32 := by
  show StableHlo.after hostOps2 (W4 m ρ c) (Proc.devRef .tc main_v5) = _
  after_results
  try rfl

end Between

end Cert.KernelIdeal.Gen

end
-- ==== Proof.Block.lean ====
/-
  One block of the second call at an index: row `r` and output `q` get the sum, over the smaller column `i`, of the
  row's quadratic part against block `i` of the layout times the row's entry `i`, plus the row against the linear
  weights, plus the bias. The row's entry `i` is picked by a product with a matrix of zeros and ones, and the sum over
  the 64 blocks of 32 columns is made by halving the width six times.
-/
module

public import proofs.«01_k».proof.Proof.Gen.KernelIdeal.Frame
public import proofs.«01_k».proof.Proof.Alg
public import Idealize.ShloMosaic.Lib.ValueIdx
public import Idealize.ShloMosaic.Lib.ValueLayout
public import Idealize.ShloMosaic.Lib.Pipeline.Value
public import Idealize.ShloMosaic.Lib.MatmulPlain

@[expose] public section

set_option maxRecDepth 16384

noncomputable section

open scoped BigOperators

namespace Cert.KernelIdeal.Gen

open Idealize.ShloMosaic Idealize.ShloMosaic.TcCoe Idealize.ShloMosaic.ValueIdx Cert.PairForm

/-! ## The block a column belongs to -/

/-- The floor of a word by 32, as the kernel finds it: the truncated quotient, one less when the remainder is not zero
    and the signs differ. -/
def blockWord (v : BitVec 32) : BitVec 32 :=
  Scalar.select
    (IntOp.andi
      (IntOp.cmpi .ne (IntOp.subi ((IntOp.cmpi .sgt v 0#32).setWidth 32) ((IntOp.cmpi .slt v 0#32).setWidth 32))
        (Scalar.subi (Scalar.extui (Scalar.cmpi .sgt 32#32 0#32)) (Scalar.extui (Scalar.cmpi .slt 32#32 0#32))))
      (IntOp.cmpi .ne (IntOp.remsi .vector v 32#32) 0#32))
    (IntOp.subi (IntOp.divsi .vector v 32#32) 1#32) (IntOp.divsi .vector v 32#32)

set_option maxRecDepth 100000 in
theorem blockWord_eq : ∀ l : Fin 2048, blockWord (BitVec.ofNat 32 l) = BitVec.ofNat 32 (l / 32) := by decide +kernel

/-- The matrix of zeros and ones: entry `(k, l)` says whether column `l` belongs to block `k`. -/
def inBlock : FVec Ideal S64x2048 .f32 :=
  sitofp .f32 (extui 32 (cmpi .eq (fun i => blockWord (iota .tc S64x2048 32 [1] iota_S64x2048_d1_w32 i))
    (iota .tc S64x2048 32 [0] iota_S64x2048_d0_w32)) natLt_1_32)

theorem inBlock_apply (k : Fin 64) (l : Fin 2048) : inBlock (ix2 k l) = if k.val = l.val / 32 then (1 : EReal) else 0 := by
  have e : inBlock (ix2 k l) = ((((IntOp.cmpi .eq (blockWord (BitVec.ofNat 32 l)) (BitVec.ofNat 32 k)).setWidth 32).toInt : ℝ) : EReal) := by
    unfold inBlock
    rw [sitofp_apply, extui_apply]
    show FloatOps.sitofp (F := Ideal) .f32 ((IntOp.cmpi .eq (blockWord (iota .tc S64x2048 32 [1] iota_S64x2048_d1_w32 (ix2 k l)))
      (iota .tc S64x2048 32 [0] iota_S64x2048_d0_w32 (ix2 k l))).setWidth 32) = _
    rw [iota_single_apply, iota_single_apply]
    rfl
  rw [e, blockWord_eq]
  have hl := l.isLt
  have hk := k.isLt
  by_cases h : k.val = l.val / 32
  · rw [if_pos h, h]
    simp [IntOp.cmpi]
  · rw [if_neg h]
    have hne : BitVec.ofNat 32 (l.val / 32) ≠ BitVec.ofNat 32 k.val := by
      intro h'
      have := congrArg BitVec.toNat h'
      simp only [BitVec.toNat_ofNat] at this
      omega
    simp [IntOp.cmpi, beq_eq_false_iff_ne.mpr hne]

/-! ## Halving the width -/

/-- The lower half of the columns plus the upper half, at column `q` of block `i`. -/
theorem halve_apply {a b s : ℕ} (X : FVec Ideal ⟨2, ![512, b]⟩ .f32) (h0 : (⟨2, ![512, b]⟩ : Shape).Slices ![0, 0] ⟨2, ![512, a]⟩)
    (h1 : (⟨2, ![512, b]⟩ : Shape).Slices ![0, a] ⟨2, ![512, a]⟩) (r : Fin 512) (q : ℕ) (f : ℕ → EReal) (ha : a = 32 * s) (hb : b = a + a)
    (H : ∀ (i : ℕ) (h : 32 * i + q < b), X (ix2 r ⟨32 * i + q, h⟩) = f i) (i : ℕ) (h : 32 * i + q < a) :
    addf (extractStridedSlice ⟨2, ![512, a]⟩ ![0, 0] X h0) (extractStridedSlice ⟨2, ![512, a]⟩ ![0, a] X h1) (ix2 r ⟨32 * i + q, h⟩)
      = f i + f (s + i) := by
  rw [addf_apply, slice2_axis1_apply 0 X h0 r _ ⟨32 * i + q, by omega⟩ (Nat.zero_add _).symm,
    slice2_axis1_apply a X h1 r _ ⟨32 * (s + i) + q, by omega⟩ (by show 32 * (s + i) + q = a + (32 * i + q); omega), H, H]

section Value

variable (x0 : Vec Ideal S512x64 .f32) (x1 : Vec Ideal S64x2048 .f32) (x2 : Vec Ideal S64x32 .f32) (x3 : Vec Ideal S1x32 .f32)

/-- The products before the halving: the quadratic part's column times the picked entry. -/
def wide : FVec Ideal S512x2048 .f32 :=
  mulf (matmul dot_S512x64_S64x2048_S512x2048_1_0_0_1_n_n (φ₁ := .f32) (φ₂ := .f32) none (x0 : FVec Ideal S512x64 .f32) (x1 : FVec Ideal S64x2048 .f32) (constant S512x2048 .f32 0x00000000#32))
    (matmul dot_S512x64_S64x2048_S512x2048_1_0_0_1_n_n (φ₁ := .f32) (φ₂ := .f32) none (x0 : FVec Ideal S512x64 .f32) inBlock (constant S512x2048 .f32 0x00000000#32))

theorem dot_wide_eq : dot_S512x64_S64x2048_S512x2048_1_0_0_1_n_n = DotDims.plain 512 64 2048 := rfl
theorem dot_lin_eq : dot_S512x64_S64x32_S512x32_1_0_0_1_n_n = DotDims.plain 512 64 32 := rfl

theorem wide_apply (r : Fin 512) (l : Fin 2048) : wide x0 x1 (ix2 r l)
    = (∑ j : Fin 64, x0 (ix2 r j) * x1 (ix2 j l)) * (∑ n : Fin 64, x0 (ix2 r n) * inBlock (ix2 n l)) := by
  unfold wide
  rw [mulf_apply]
  simp only [matmul]
  rw [dot_wide_eq, Ideal.matmul_plain_apply, Ideal.matmul_plain_apply]
  have hz : (constant S512x2048 .f32 0x00000000#32 : FVec Ideal S512x2048 .f32) (ix2 r l) = 0 := Ideal.ofBits_zero_f32
  rw [hz, zero_add, zero_add]

/-- The block of every column, as the kernel computes it on whole arrays. -/
theorem blocks_eq : (select
      (andi
        (cmpi .ne
          (subi (extui 32 (cmpi .sgt (iota .tc S64x2048 32 [1] iota_S64x2048_d1_w32) (broadcast S64x2048 0#32)) natLt_1_32)
            (extui 32 (cmpi .slt (iota .tc S64x2048 32 [1] iota_S64x2048_d1_w32) (broadcast S64x2048 0#32)) natLt_1_32))
          (broadcast S64x2048 (Scalar.subi (Scalar.extui (Scalar.cmpi .sgt 32#32 0#32)) (Scalar.extui (Scalar.cmpi .slt 32#32 0#32)))))
        (cmpi .ne (remsi (iota .tc S64x2048 32 [1] iota_S64x2048_d1_w32) (broadcast S64x2048 32#32)) (broadcast S64x2048 0#32)))
      (subi (divsi (iota .tc S64x2048 32 [1] iota_S64x2048_d1_w32) (broadcast S64x2048 32#32)) (broadcast S64x2048 1#32))
      (divsi (iota .tc S64x2048 32 [1] iota_S64x2048_d1_w32) (broadcast S64x2048 32#32)) : IVec S64x2048 32)
    = fun i => blockWord (iota .tc S64x2048 32 [1] iota_S64x2048_d1_w32 i) := by
  funext i
  unfold blockWord
  generalize (iota .tc S64x2048 32 [1] iota_S64x2048_d1_w32 : IVec S64x2048 32) = v
  rfl

/-- The first three halvings. -/
theorem pay3_eq : k1_pay3 (F := Ideal) x0 x1
    = (let y0 := wide x0 x1
       let y1 := addf (extractStridedSlice S512x1024 ![0, 0] y0 slices_S512x2048_o0_0_S512x1024) (extractStridedSlice S512x1024 ![0, 1024] y0 slices_S512x2048_o0_1024_S512x1024)
       let y2 := addf (extractStridedSlice S512x512 ![0, 0] y1 slices_S512x1024_o0_0_S512x512) (extractStridedSlice S512x512 ![0, 512] y1 slices_S512x1024_o0_512_S512x512)
       addf (extractStridedSlice S512x256 ![0, 0] y2 slices_S512x512_o0_0_S512x256) (extractStridedSlice S512x256 ![0, 256] y2 slices_S512x512_o0_256_S512x256)) := by
  unfold k1_pay3 k1_pay2
  simp only [shapeCast_self]
  have hw : (fun i => blockWord (iota .tc S64x2048 32 [1] iota_S64x2048_d1_w32 i)) = _ := blocks_eq.symm
  unfold wide inBlock
  rw [hw]

theorem out1_apply (r : Fin 512) (q : Fin 32) : out1_4 x0 x1 x2 x3 (ix2 r q)
    = ∑ i : Fin 64, (∑ j : Fin 64, x0 (ix2 r j) * x1 (ix2 j ⟨32 * i + q, by omega⟩)) * (∑ n : Fin 64, x0 (ix2 r n) * inBlock (ix2 n ⟨32 * i + q, by omega⟩))
      + ∑ n : Fin 64, x0 (ix2 r n) * x2 (ix2 n q) + x3 (ix2 0 q) := by
  have hz : (![0, 0] : Fin 2 → ℕ) = fun _ => 0 := by funext x; match x with | ⟨0, _⟩ => rfl | ⟨1, _⟩ => rfl
  have e0 : View.ld x0 r1_0 = x0 := View.ld_unit_zero (S := S512x64) hz _ x0
  have e1 : View.ld x1 r1_1 = x1 := View.ld_unit_zero (S := S64x2048) hz _ x1
  have e2 : View.ld x2 r1_2 = x2 := View.ld_unit_zero (S := S64x32) hz _ x2
  have e3 : View.ld x3 r1_3 = x3 := View.ld_unit_zero (S := S1x32) hz _ x3
  have e4 : out1_4 x0 x1 x2 x3 = k1_pay1 (k1_pay2 x0) (k1_pay3 x0 x1) (k1_pay4 x0 x1) x2 x3 := by
    unfold out1_4
    rw [e0, e1, e2, e3]
    exact View.canon_unit_zero (S := S512x32) hz _ _
  set f0 : ℕ → EReal := fun i => if h : 32 * i + q.val < 2048 then wide x0 x1 (ix2 r ⟨32 * i + q.val, h⟩) else 0 with hf0
  have H0 : ∀ (i : ℕ) (h : 32 * i + q.val < 2048), wide x0 x1 (ix2 r ⟨32 * i + q.val, h⟩) = f0 i := fun i h => by simp only [hf0, dif_pos h]
  have H1 := halve_apply (a := 1024) (s := 32) (wide x0 x1) slices_S512x2048_o0_0_S512x1024 slices_S512x2048_o0_1024_S512x1024 r q f0 rfl rfl H0
  have H2 := halve_apply (a := 512) (s := 16) _ slices_S512x1024_o0_0_S512x512 slices_S512x1024_o0_512_S512x512 r q (fun i => f0 i + f0 (32 + i)) rfl rfl H1
  have H3 := halve_apply (a := 256) (s := 8) _ slices_S512x512_o0_0_S512x256 slices_S512x512_o0_256_S512x256 r q _ rfl rfl H2
  have H4 := halve_apply (a := 128) (s := 4) _ slices_S512x256_o0_0_S512x128 slices_S512x256_o0_128_S512x128 r q _ rfl rfl H3
  have H5 := halve_apply (a := 64) (s := 2) _ slices_S512x128_o0_0_S512x64 slices_S512x128_o0_64_S512x64 r q _ rfl rfl H4
  have H6 := halve_apply (a := 32) (s := 1) _ slices_S512x64_o0_0_S512x32 slices_S512x64_o0_32_S512x32 r q _ rfl rfl H5 0 (by omega)
  rw [e4]
  unfold k1_pay1 k1_pay4 k1_pay2
  simp only [shapeCast_self]
  rw [pay3_eq, addf_apply, addf_apply]
  have hq : (ix2 r ⟨32 * 0 + q.val, by omega⟩ : S512x32.Idx) = ix2 r q := by congr 1; exact Fin.ext (by show 32 * 0 + q.val = q.val; omega)
  rw [hq] at H6
  refine congrArg₂ (· + ·) (congrArg₂ (· + ·) (H6.trans ?_) ?_) ?_
  · refine (sum_fold64 f0 _ _ _ _ _ (fun _ => rfl) (fun _ => rfl) (fun _ => rfl) (fun _ => rfl) (fun _ => rfl)).trans ?_
    refine Finset.sum_congr rfl fun i _ => ?_
    rw [← H0 i (by omega), wide_apply]
  · simp only [matmul]
    rw [dot_lin_eq, Ideal.matmul_plain_apply]
    have hz' : (constant S512x32 .f32 0x00000000#32 : FVec Ideal S512x32 .f32) (ix2 r q) = 0 := Ideal.ofBits_zero_f32
    rw [hz', zero_add]
  · refine broadcastTo_apply _ _ _ (ix2 0 q) fun a => ?_
    match a with
    | ⟨0, _⟩ => rfl
    | ⟨1, _⟩ => rfl

end Value

end Cert.KernelIdeal.Gen

end
-- ==== Proof.Tables.lean ====
/-
  The two index tables the reference takes its columns by, decided: entry `p` of the first is the smaller column of
  pair `p`, entry `p` of the second the larger one, and the pairs come in lexicographic order, so pair `(i, j)` stands
  at `pairPos i j`. Hence the tables list every pair `i < j` of the 64 columns exactly once.
-/
module

public import proofs.«01_k».proof.Proof.Gen.ReferenceIdeal.Run
public import proofs.«01_k».proof.Proof.Alg

@[expose] public section

noncomputable section

namespace Cert.PairForm

open Cert.ReferenceIdeal

/-- The place of the pair `(i, i + 1)` in the list of pairs: the pairs of the smaller columns come before it. -/
def start (i : ℕ) : ℕ := 63 * i - i * (i - 1) / 2

/-- The place of the pair `(i, j)`, `i < j`. -/
def pairPos (i j : ℕ) : ℕ := start i + (j - i - 1)

set_option maxRecDepth 100000 in
/-- Entry `p` of the tables is a pair of columns, smaller first, and that pair's place is `p`. -/
theorem table_entry : ∀ p : Fin 2016, (lit0 p).toNat < (lit1 p).toNat ∧ (lit1 p).toNat < 64
    ∧ pairPos (lit0 p).toNat (lit1 p).toNat = p.val := by decide +kernel

/-- The places of the pairs are places of the list. -/
theorem pairPos_lt : ∀ i j : Fin 64, i < j → pairPos i j < 2016 := by decide +kernel

set_option maxRecDepth 100000 in
/-- The tables at the pair `(i, j)`'s place are `i` and `j`. -/
theorem table_at : ∀ i j : Fin 64, (h : i < j) → (lit0 ⟨pairPos i j, pairPos_lt i j h⟩).toNat = i.val
    ∧ (lit1 ⟨pairPos i j, pairPos_lt i j h⟩).toNat = j.val := by decide +kernel

/-- The smaller column of pair `p`. -/
def rowOf (p : Fin 2016) : Fin 64 := ⟨(lit0 p).toNat, (table_entry p).1.trans (table_entry p).2.1⟩

/-- The larger column of pair `p`. -/
def colOf (p : Fin 2016) : Fin 64 := ⟨(lit1 p).toNat, (table_entry p).2.1⟩

theorem pairPos_rowOf_colOf (p : Fin 2016) : pairPos (rowOf p) (colOf p) = p.val := (table_entry p).2.2

/-- The tables list every pair of different columns once. -/
theorem pairs : PairList rowOf colOf where
  lt p := (table_entry p).1
  inj p q hr hc := Fin.ext (by rw [← pairPos_rowOf_colOf p, ← pairPos_rowOf_colOf q, hr, hc])
  surj i j h := ⟨⟨pairPos i j, pairPos_lt i j h⟩, Fin.ext (table_at i j h).1, Fin.ext (table_at i j h).2⟩

end Cert.PairForm

end
-- ==== Proof.Marks.lean ====
/-
  Reading the kernel's 64 × 2016 table, which is printed as blocks of 128 entries and, over them, groups of 128 blocks.
  An entry's position names a column and a pair of columns. A block is right when, walked in order with the column and
  the pair kept in step, each of its entries is one or zero as the column belongs to the pair or not.
-/
module

public import proofs.«01_k».proof.Proof.Tables
public import proofs.«01_k».proof.KernelIdeal
public import Mathlib.Tactic.IntervalCases

@[expose] public section

set_option maxRecDepth 16384

noncomputable section

namespace Cert.PairForm

open Cert.KernelIdeal

/-! ## What the entries should be -/

/-- The word of one if the column is one of the two, else the word of zero. -/
def markWord (n r c : ℕ) : BitVec 32 := bif Nat.beq n r || Nat.beq n c then 0x3F800000#32 else 0x00000000#32

/-- The entry at position `i` is right: read as column `n` and the pair `(r, c)`, it says whether `n` is `r` or `c`. -/
def Marked (i : ℕ) (a : BitVec 32) : Prop :=
  ∀ n r c : ℕ, r < c → c < 64 → i = n * 2016 + pairPos r c → a = markWord n r c

/-- Walk a block from column `n` and the pair `(r, c)`, which is number `p`. -/
def walk : List (BitVec 32) → ℕ → ℕ → ℕ → ℕ → Bool
  | [], _, _, _, _ => true
  | a :: L, n, p, r, c =>
    Nat.beq a.toNat (markWord n r c).toNat
      && (bif Nat.blt (p + 1) 2016 then
            (bif Nat.blt (c + 1) 64 then walk L n (p + 1) r (c + 1) else walk L n (p + 1) (r + 1) (r + 2))
          else walk L (n + 1) 0 0 1)

theorem pairPos_inj {r c r' c' : ℕ} (h : r < c) (hc : c < 64) (h' : r' < c') (hc' : c' < 64) (e : pairPos r c = pairPos r' c') :
    r = r' ∧ c = c' := by
  have t := table_at ⟨r, h.trans hc⟩ ⟨c, hc⟩ h
  have t' := table_at ⟨r', h'.trans hc'⟩ ⟨c', hc'⟩ h'
  have e' : (⟨pairPos r c, pairPos_lt ⟨r, h.trans hc⟩ ⟨c, hc⟩ h⟩ : Fin 2016) = ⟨pairPos r' c', pairPos_lt ⟨r', h'.trans hc'⟩ ⟨c', hc'⟩ h'⟩ :=
    Fin.ext e
  simp only at t t'
  rw [e'] at t
  exact ⟨t.1.symm.trans t'.1, t.2.symm.trans t'.2⟩

theorem row_end : ∀ r : Fin 63, pairPos r 63 + 1 < 2016 → r.val + 2 < 64 ∧ pairPos (r + 1) (r + 2) = pairPos r 63 + 1 := by
  decide +kernel

theorem walk_head {a : BitVec 32} {n p r c : ℕ} (h : Nat.beq a.toNat (markWord n r c).toNat = true) (hr : r < c) (hc : c < 64)
    (hp : pairPos r c = p) : Marked (n * 2016 + p) a := by
  intro n' r' c' h' hc' e
  have l1 := pairPos_lt ⟨r, hr.trans hc⟩ ⟨c, hc⟩ hr
  have l2 := pairPos_lt ⟨r', h'.trans hc'⟩ ⟨c', hc'⟩ h'
  simp only at l1 l2
  have hn : n = n' := by omega
  have hpp : pairPos r c = pairPos r' c' := by omega
  obtain ⟨e1, e2⟩ := pairPos_inj hr hc h' hc' hpp
  rw [← hn, ← e1, ← e2]
  exact BitVec.eq_of_toNat_eq (Nat.eq_of_beq_eq_true h)

/-- A block walked to its end is right throughout. -/
theorem walk_sound : ∀ (L : List (BitVec 32)) (n p r c : ℕ), walk L n p r c = true → r < c → c < 64 → pairPos r c = p →
    ∀ t < L.length, Marked (n * 2016 + p + t) (L.getD t 0#32)
  | [], _, _, _, _, _, _, _, _, t, ht => absurd ht (Nat.not_lt_zero _)
  | a :: L, n, p, r, c, h, hr, hc, hp, t, ht => by
    rw [walk, Bool.and_eq_true] at h
    obtain ⟨h1, h2⟩ := h
    cases t with
    | zero =>
      rw [List.getD_cons_zero, Nat.add_zero]
      exact walk_head h1 hr hc hp
    | succ t =>
      have ht' : t < L.length := Nat.lt_of_succ_lt_succ ht
      rw [List.getD_cons_succ]
      have l1 := pairPos_lt ⟨r, hr.trans hc⟩ ⟨c, hc⟩ hr
      simp only at l1
      by_cases b1 : p + 1 < 2016
      · rw [show Nat.blt (p + 1) 2016 = true from Nat.ble_eq_true_of_le b1, cond_true] at h2
        by_cases b2 : c + 1 < 64
        · rw [show Nat.blt (c + 1) 64 = true from Nat.ble_eq_true_of_le b2, cond_true] at h2
          have := walk_sound L n (p + 1) r (c + 1) h2 (by omega) b2 (by unfold pairPos at hp ⊢; omega) t ht'
          rwa [show n * 2016 + (p + 1) + t = n * 2016 + p + (t + 1) by omega] at this
        · have c63 : c = 63 := by omega
          subst c63
          rw [show Nat.blt (63 + 1) 64 = false from rfl, cond_false] at h2
          have re := row_end ⟨r, hr⟩ (by simp only; omega)
          simp only at re
          have := walk_sound L n (p + 1) (r + 1) (r + 2) h2 (by omega) re.1 (by rw [re.2, hp]) t ht'
          rwa [show n * 2016 + (p + 1) + t = n * 2016 + p + (t + 1) by omega] at this
      · have hb : Nat.blt (p + 1) 2016 = false := by
          rw [Bool.eq_false_iff]; intro hh; exact b1 (Nat.le_of_ble_eq_true hh)
        rw [hb, cond_false] at h2
        have := walk_sound L (n + 1) 0 0 1 h2 (by omega) (by omega) (by decide) t ht'
        rwa [show (n + 1) * 2016 + 0 + t = n * 2016 + p + (t + 1) by omega] at this

/-- Where block `k` starts: its column and its pair's number. -/
def startPair (k : ℕ) : Fin 2016 := ⟨128 * k % 2016, Nat.mod_lt _ (by omega)⟩

/-- Walk block `k`. -/
def walkBlock (k : ℕ) (L : List (BitVec 32)) : Bool :=
  walk L (128 * k / 2016) (128 * k % 2016) (ReferenceIdeal.lit0 (startPair k)).toNat (ReferenceIdeal.lit1 (startPair k)).toNat

theorem walkBlock_sound {k : ℕ} {L : List (BitVec 32)} (h : walkBlock k L = true) (hL : L.length = 128) (i : ℕ) (hi : i / 128 = k) :
    Marked i (L.getD (i % 128) 0#32) := by
  have te := table_entry (startPair k)
  have := walk_sound L _ _ _ _ h te.1 te.2.1 te.2.2 (i % 128) (by rw [hL]; omega)
  rwa [show 128 * k / 2016 * 2016 + 128 * k % 2016 + i % 128 = i by omega] at this

/-! ## A list of propositions about entries, by position -/

/-- Entry `s`, `s + 1`, … of the list satisfy the proposition of their position. -/
def AllAt (P : ℕ → BitVec 32 → Prop) : ℕ → List (BitVec 32) → Prop
  | _, [] => True
  | s, a :: L => P s a ∧ AllAt P (s + 1) L

theorem AllAt.getD {P : ℕ → BitVec 32 → Prop} : ∀ {s : ℕ} {L : List (BitVec 32)}, AllAt P s L → ∀ t < L.length, P (s + t) (L.getD t 0#32)
  | _, [], _, t, ht => absurd ht (Nat.not_lt_zero _)
  | _, _ :: _, h, 0, _ => h.1
  | s, _ :: L, h, t + 1, ht => by
    have := AllAt.getD h.2 t (Nat.lt_of_succ_lt_succ ht)
    rw [List.getD_cons_succ]
    rwa [show s + 1 + t = s + (t + 1) by omega] at this

/-! ## A match of 128 arms is its list of arms read at the number -/

theorem arms_0 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32)
    (d : ℕ → BitVec 32) : ∀ n < 128, lit0t0_0.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] n 0#32 := by
  intro n hn
  interval_cases n <;> rfl

theorem arms_1 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32)
    (d : ℕ → BitVec 32) : ∀ n < 128, lit0t0_184.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] n 0#32 := by
  intro n hn
  interval_cases n <;> rfl

theorem arms_2 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32)
    (d : ℕ → BitVec 32) : ∀ n < 128, lit0t0_381.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] n 0#32 := by
  intro n hn
  interval_cases n <;> rfl

theorem arms_3 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32)
    (d : ℕ → BitVec 32) : ∀ n < 128, lit0t0_578.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] n 0#32 := by
  intro n hn
  interval_cases n <;> rfl

theorem arms_4 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32)
    (d : ℕ → BitVec 32) : ∀ n < 128, lit0t0_775.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] n 0#32 := by
  intro n hn
  interval_cases n <;> rfl

theorem arms_5 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32)
    (d : ℕ → BitVec 32) : ∀ n < 128, lit0t0_970.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] n 0#32 := by
  intro n hn
  interval_cases n <;> rfl

theorem arms_6 (
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 : Unit → BitVec 32)
    (d : ℕ → BitVec 32) : ∀ n < 112, lit0t1_7.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 d
    = List.getD
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 ()] n 0#32 := by
  intro n hn
  interval_cases n <;> rfl

theorem block_0 {i b t : ℕ} (hb : i / 16384 = b) (ht : i / 128 % 128 = t) {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (h : walkBlock (128 * b + t)
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] = true) :
    Marked i (lit0t0_0.match_1 (fun _ => BitVec 32) (i % 128)
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (i % 128) (Nat.mod_lt _ (by omega))]
  exact walkBlock_sound h rfl i (by omega)

theorem block_1 {i b t : ℕ} (hb : i / 16384 = b) (ht : i / 128 % 128 = t) {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (h : walkBlock (128 * b + t)
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] = true) :
    Marked i (lit0t0_184.match_1 (fun _ => BitVec 32) (i % 128)
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (i % 128) (Nat.mod_lt _ (by omega))]
  exact walkBlock_sound h rfl i (by omega)

theorem block_2 {i b t : ℕ} (hb : i / 16384 = b) (ht : i / 128 % 128 = t) {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (h : walkBlock (128 * b + t)
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] = true) :
    Marked i (lit0t0_381.match_1 (fun _ => BitVec 32) (i % 128)
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (i % 128) (Nat.mod_lt _ (by omega))]
  exact walkBlock_sound h rfl i (by omega)

theorem block_3 {i b t : ℕ} (hb : i / 16384 = b) (ht : i / 128 % 128 = t) {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (h : walkBlock (128 * b + t)
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] = true) :
    Marked i (lit0t0_578.match_1 (fun _ => BitVec 32) (i % 128)
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (i % 128) (Nat.mod_lt _ (by omega))]
  exact walkBlock_sound h rfl i (by omega)

theorem block_4 {i b t : ℕ} (hb : i / 16384 = b) (ht : i / 128 % 128 = t) {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (h : walkBlock (128 * b + t)
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] = true) :
    Marked i (lit0t0_775.match_1 (fun _ => BitVec 32) (i % 128)
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (i % 128) (Nat.mod_lt _ (by omega))]
  exact walkBlock_sound h rfl i (by omega)

theorem block_5 {i b t : ℕ} (hb : i / 16384 = b) (ht : i / 128 % 128 = t) {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (h : walkBlock (128 * b + t)
    [a0 (), a1 (), a2 (), a3 (), a4 (), a5 (), a6 (), a7 (), a8 (), a9 (), a10 (), a11 (), a12 (), a13 (), a14 (), a15 (), a16 (),
    a17 (), a18 (), a19 (), a20 (), a21 (), a22 (), a23 (), a24 (), a25 (), a26 (), a27 (), a28 (), a29 (), a30 (), a31 (), a32
    (), a33 (), a34 (), a35 (), a36 (), a37 (), a38 (), a39 (), a40 (), a41 (), a42 (), a43 (), a44 (), a45 (), a46 (), a47 (),
    a48 (), a49 (), a50 (), a51 (), a52 (), a53 (), a54 (), a55 (), a56 (), a57 (), a58 (), a59 (), a60 (), a61 (), a62 (), a63
    (), a64 (), a65 (), a66 (), a67 (), a68 (), a69 (), a70 (), a71 (), a72 (), a73 (), a74 (), a75 (), a76 (), a77 (), a78 (),
    a79 (), a80 (), a81 (), a82 (), a83 (), a84 (), a85 (), a86 (), a87 (), a88 (), a89 (), a90 (), a91 (), a92 (), a93 (), a94
    (), a95 (), a96 (), a97 (), a98 (), a99 (), a100 (), a101 (), a102 (), a103 (), a104 (), a105 (), a106 (), a107 (), a108 (),
    a109 (), a110 (), a111 (), a112 (), a113 (), a114 (), a115 (), a116 (), a117 (), a118 (), a119 (), a120 (), a121 (), a122 (),
    a123 (), a124 (), a125 (), a126 (), a127 ()] = true) :
    Marked i (lit0t0_970.match_1 (fun _ => BitVec 32) (i % 128)
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (i % 128) (Nat.mod_lt _ (by omega))]
  exact walkBlock_sound h rfl i (by omega)

theorem group_5 {P : BitVec 32 → Prop} {n : ℕ} {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 : Unit → BitVec 32}
    {d : ℕ → BitVec 32} (hn : n < 128)
    (H0 : n = 0 → P (a0 ())) (H1 : n = 1 → P (a1 ())) (H2 : n = 2 → P (a2 ())) (H3 : n = 3 → P (a3 ())) (H4 : n = 4 → P (a4 ()))
    (H5 : n = 5 → P (a5 ())) (H6 : n = 6 → P (a6 ())) (H7 : n = 7 → P (a7 ())) (H8 : n = 8 → P (a8 ())) (H9 : n = 9 → P (a9 ()))
    (H10 : n = 10 → P (a10 ())) (H11 : n = 11 → P (a11 ())) (H12 : n = 12 → P (a12 ())) (H13 : n = 13 → P (a13 ())) (H14 : n = 14
    → P (a14 ())) (H15 : n = 15 → P (a15 ())) (H16 : n = 16 → P (a16 ())) (H17 : n = 17 → P (a17 ())) (H18 : n = 18 → P (a18 ()))
    (H19 : n = 19 → P (a19 ())) (H20 : n = 20 → P (a20 ())) (H21 : n = 21 → P (a21 ())) (H22 : n = 22 → P (a22 ())) (H23 : n = 23
    → P (a23 ())) (H24 : n = 24 → P (a24 ())) (H25 : n = 25 → P (a25 ())) (H26 : n = 26 → P (a26 ())) (H27 : n = 27 → P (a27 ()))
    (H28 : n = 28 → P (a28 ())) (H29 : n = 29 → P (a29 ())) (H30 : n = 30 → P (a30 ())) (H31 : n = 31 → P (a31 ())) (H32 : n = 32
    → P (a32 ())) (H33 : n = 33 → P (a33 ())) (H34 : n = 34 → P (a34 ())) (H35 : n = 35 → P (a35 ())) (H36 : n = 36 → P (a36 ()))
    (H37 : n = 37 → P (a37 ())) (H38 : n = 38 → P (a38 ())) (H39 : n = 39 → P (a39 ())) (H40 : n = 40 → P (a40 ())) (H41 : n = 41
    → P (a41 ())) (H42 : n = 42 → P (a42 ())) (H43 : n = 43 → P (a43 ())) (H44 : n = 44 → P (a44 ())) (H45 : n = 45 → P (a45 ()))
    (H46 : n = 46 → P (a46 ())) (H47 : n = 47 → P (a47 ())) (H48 : n = 48 → P (a48 ())) (H49 : n = 49 → P (a49 ())) (H50 : n = 50
    → P (a50 ())) (H51 : n = 51 → P (a51 ())) (H52 : n = 52 → P (a52 ())) (H53 : n = 53 → P (a53 ())) (H54 : n = 54 → P (a54 ()))
    (H55 : n = 55 → P (a55 ())) (H56 : n = 56 → P (a56 ())) (H57 : n = 57 → P (a57 ())) (H58 : n = 58 → P (a58 ())) (H59 : n = 59
    → P (a59 ())) (H60 : n = 60 → P (a60 ())) (H61 : n = 61 → P (a61 ())) (H62 : n = 62 → P (a62 ())) (H63 : n = 63 → P (a63 ()))
    (H64 : n = 64 → P (a64 ())) (H65 : n = 65 → P (a65 ())) (H66 : n = 66 → P (a66 ())) (H67 : n = 67 → P (a67 ())) (H68 : n = 68
    → P (a68 ())) (H69 : n = 69 → P (a69 ())) (H70 : n = 70 → P (a70 ())) (H71 : n = 71 → P (a71 ())) (H72 : n = 72 → P (a72 ()))
    (H73 : n = 73 → P (a73 ())) (H74 : n = 74 → P (a74 ())) (H75 : n = 75 → P (a75 ())) (H76 : n = 76 → P (a76 ())) (H77 : n = 77
    → P (a77 ())) (H78 : n = 78 → P (a78 ())) (H79 : n = 79 → P (a79 ())) (H80 : n = 80 → P (a80 ())) (H81 : n = 81 → P (a81 ()))
    (H82 : n = 82 → P (a82 ())) (H83 : n = 83 → P (a83 ())) (H84 : n = 84 → P (a84 ())) (H85 : n = 85 → P (a85 ())) (H86 : n = 86
    → P (a86 ())) (H87 : n = 87 → P (a87 ())) (H88 : n = 88 → P (a88 ())) (H89 : n = 89 → P (a89 ())) (H90 : n = 90 → P (a90 ()))
    (H91 : n = 91 → P (a91 ())) (H92 : n = 92 → P (a92 ())) (H93 : n = 93 → P (a93 ())) (H94 : n = 94 → P (a94 ())) (H95 : n = 95
    → P (a95 ())) (H96 : n = 96 → P (a96 ())) (H97 : n = 97 → P (a97 ())) (H98 : n = 98 → P (a98 ())) (H99 : n = 99 → P (a99 ()))
    (H100 : n = 100 → P (a100 ())) (H101 : n = 101 → P (a101 ())) (H102 : n = 102 → P (a102 ())) (H103 : n = 103 → P (a103 ()))
    (H104 : n = 104 → P (a104 ())) (H105 : n = 105 → P (a105 ())) (H106 : n = 106 → P (a106 ())) (H107 : n = 107 → P (a107 ()))
    (H108 : n = 108 → P (a108 ())) (H109 : n = 109 → P (a109 ())) (H110 : n = 110 → P (a110 ())) (H111 : n = 111 → P (a111 ()))
    (H112 : n = 112 → P (a112 ())) (H113 : n = 113 → P (a113 ())) (H114 : n = 114 → P (a114 ())) (H115 : n = 115 → P (a115 ()))
    (H116 : n = 116 → P (a116 ())) (H117 : n = 117 → P (a117 ())) (H118 : n = 118 → P (a118 ())) (H119 : n = 119 → P (a119 ()))
    (H120 : n = 120 → P (a120 ())) (H121 : n = 121 → P (a121 ())) (H122 : n = 122 → P (a122 ())) (H123 : n = 123 → P (a123 ()))
    (H124 : n = 124 → P (a124 ())) (H125 : n = 125 → P (a125 ())) (H126 : n = 126 → P (a126 ())) (H127 : n = 127 → P (a127 ())) :
    P (lit0t0_970.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 a112 a113 a114 a115 a116 a117 a118 a119 a120 a121
    a122 a123 a124 a125 a126 a127 d) := by
  rw [arms_5
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _
    n hn]
  have H : AllAt (fun s a => n = s → P a) 0
      [a0 (), a1 (), a2 (), a3 (), a4 (), a5 (), a6 (), a7 (), a8 (), a9 (), a10 (), a11 (), a12 (), a13 (), a14 (), a15 (), a16
      (), a17 (), a18 (), a19 (), a20 (), a21 (), a22 (), a23 (), a24 (), a25 (), a26 (), a27 (), a28 (), a29 (), a30 (), a31 (),
      a32 (), a33 (), a34 (), a35 (), a36 (), a37 (), a38 (), a39 (), a40 (), a41 (), a42 (), a43 (), a44 (), a45 (), a46 (), a47
      (), a48 (), a49 (), a50 (), a51 (), a52 (), a53 (), a54 (), a55 (), a56 (), a57 (), a58 (), a59 (), a60 (), a61 (), a62 (),
      a63 (), a64 (), a65 (), a66 (), a67 (), a68 (), a69 (), a70 (), a71 (), a72 (), a73 (), a74 (), a75 (), a76 (), a77 (), a78
      (), a79 (), a80 (), a81 (), a82 (), a83 (), a84 (), a85 (), a86 (), a87 (), a88 (), a89 (), a90 (), a91 (), a92 (), a93 (),
      a94 (), a95 (), a96 (), a97 (), a98 (), a99 (), a100 (), a101 (), a102 (), a103 (), a104 (), a105 (), a106 (), a107 (), a108
      (), a109 (), a110 (), a111 (), a112 (), a113 (), a114 (), a115 (), a116 (), a117 (), a118 (), a119 (), a120 (), a121 (),
      a122 (), a123 (), a124 (), a125 (), a126 (), a127 ()] :=
    ⟨H0, H1, H2, H3, H4, H5, H6, H7, H8, H9, H10, H11, H12, H13, H14, H15, H16, H17, H18, H19, H20, H21, H22, H23, H24, H25, H26,
    H27, H28, H29, H30, H31, H32, H33, H34, H35, H36, H37, H38, H39, H40, H41, H42, H43, H44, H45, H46, H47, H48, H49, H50, H51,
    H52, H53, H54, H55, H56, H57, H58, H59, H60, H61, H62, H63, H64, H65, H66, H67, H68, H69, H70, H71, H72, H73, H74, H75, H76,
    H77, H78, H79, H80, H81, H82, H83, H84, H85, H86, H87, H88, H89, H90, H91, H92, H93, H94, H95, H96, H97, H98, H99, H100, H101,
    H102, H103, H104, H105, H106, H107, H108, H109, H110, H111, H112, H113, H114, H115, H116, H117, H118, H119, H120, H121, H122,
    H123, H124, H125, H126, H127, trivial⟩
  exact H.getD n hn (Nat.zero_add n).symm

theorem group_6 {P : BitVec 32 → Prop} {n : ℕ} {
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 : Unit → BitVec 32}
    {d : ℕ → BitVec 32} (hn : n < 112)
    (H0 : n = 0 → P (a0 ())) (H1 : n = 1 → P (a1 ())) (H2 : n = 2 → P (a2 ())) (H3 : n = 3 → P (a3 ())) (H4 : n = 4 → P (a4 ()))
    (H5 : n = 5 → P (a5 ())) (H6 : n = 6 → P (a6 ())) (H7 : n = 7 → P (a7 ())) (H8 : n = 8 → P (a8 ())) (H9 : n = 9 → P (a9 ()))
    (H10 : n = 10 → P (a10 ())) (H11 : n = 11 → P (a11 ())) (H12 : n = 12 → P (a12 ())) (H13 : n = 13 → P (a13 ())) (H14 : n = 14
    → P (a14 ())) (H15 : n = 15 → P (a15 ())) (H16 : n = 16 → P (a16 ())) (H17 : n = 17 → P (a17 ())) (H18 : n = 18 → P (a18 ()))
    (H19 : n = 19 → P (a19 ())) (H20 : n = 20 → P (a20 ())) (H21 : n = 21 → P (a21 ())) (H22 : n = 22 → P (a22 ())) (H23 : n = 23
    → P (a23 ())) (H24 : n = 24 → P (a24 ())) (H25 : n = 25 → P (a25 ())) (H26 : n = 26 → P (a26 ())) (H27 : n = 27 → P (a27 ()))
    (H28 : n = 28 → P (a28 ())) (H29 : n = 29 → P (a29 ())) (H30 : n = 30 → P (a30 ())) (H31 : n = 31 → P (a31 ())) (H32 : n = 32
    → P (a32 ())) (H33 : n = 33 → P (a33 ())) (H34 : n = 34 → P (a34 ())) (H35 : n = 35 → P (a35 ())) (H36 : n = 36 → P (a36 ()))
    (H37 : n = 37 → P (a37 ())) (H38 : n = 38 → P (a38 ())) (H39 : n = 39 → P (a39 ())) (H40 : n = 40 → P (a40 ())) (H41 : n = 41
    → P (a41 ())) (H42 : n = 42 → P (a42 ())) (H43 : n = 43 → P (a43 ())) (H44 : n = 44 → P (a44 ())) (H45 : n = 45 → P (a45 ()))
    (H46 : n = 46 → P (a46 ())) (H47 : n = 47 → P (a47 ())) (H48 : n = 48 → P (a48 ())) (H49 : n = 49 → P (a49 ())) (H50 : n = 50
    → P (a50 ())) (H51 : n = 51 → P (a51 ())) (H52 : n = 52 → P (a52 ())) (H53 : n = 53 → P (a53 ())) (H54 : n = 54 → P (a54 ()))
    (H55 : n = 55 → P (a55 ())) (H56 : n = 56 → P (a56 ())) (H57 : n = 57 → P (a57 ())) (H58 : n = 58 → P (a58 ())) (H59 : n = 59
    → P (a59 ())) (H60 : n = 60 → P (a60 ())) (H61 : n = 61 → P (a61 ())) (H62 : n = 62 → P (a62 ())) (H63 : n = 63 → P (a63 ()))
    (H64 : n = 64 → P (a64 ())) (H65 : n = 65 → P (a65 ())) (H66 : n = 66 → P (a66 ())) (H67 : n = 67 → P (a67 ())) (H68 : n = 68
    → P (a68 ())) (H69 : n = 69 → P (a69 ())) (H70 : n = 70 → P (a70 ())) (H71 : n = 71 → P (a71 ())) (H72 : n = 72 → P (a72 ()))
    (H73 : n = 73 → P (a73 ())) (H74 : n = 74 → P (a74 ())) (H75 : n = 75 → P (a75 ())) (H76 : n = 76 → P (a76 ())) (H77 : n = 77
    → P (a77 ())) (H78 : n = 78 → P (a78 ())) (H79 : n = 79 → P (a79 ())) (H80 : n = 80 → P (a80 ())) (H81 : n = 81 → P (a81 ()))
    (H82 : n = 82 → P (a82 ())) (H83 : n = 83 → P (a83 ())) (H84 : n = 84 → P (a84 ())) (H85 : n = 85 → P (a85 ())) (H86 : n = 86
    → P (a86 ())) (H87 : n = 87 → P (a87 ())) (H88 : n = 88 → P (a88 ())) (H89 : n = 89 → P (a89 ())) (H90 : n = 90 → P (a90 ()))
    (H91 : n = 91 → P (a91 ())) (H92 : n = 92 → P (a92 ())) (H93 : n = 93 → P (a93 ())) (H94 : n = 94 → P (a94 ())) (H95 : n = 95
    → P (a95 ())) (H96 : n = 96 → P (a96 ())) (H97 : n = 97 → P (a97 ())) (H98 : n = 98 → P (a98 ())) (H99 : n = 99 → P (a99 ()))
    (H100 : n = 100 → P (a100 ())) (H101 : n = 101 → P (a101 ())) (H102 : n = 102 → P (a102 ())) (H103 : n = 103 → P (a103 ()))
    (H104 : n = 104 → P (a104 ())) (H105 : n = 105 → P (a105 ())) (H106 : n = 106 → P (a106 ())) (H107 : n = 107 → P (a107 ()))
    (H108 : n = 108 → P (a108 ())) (H109 : n = 109 → P (a109 ())) (H110 : n = 110 → P (a110 ())) (H111 : n = 111 → P (a111 ())) :
    P (lit0t1_7.match_1 (fun _ => BitVec 32) n
    a0 a1 a2 a3 a4 a5 a6 a7 a8 a9 a10 a11 a12 a13 a14 a15 a16 a17 a18 a19 a20 a21 a22 a23 a24 a25 a26 a27 a28 a29 a30 a31 a32 a33
    a34 a35 a36 a37 a38 a39 a40 a41 a42 a43 a44 a45 a46 a47 a48 a49 a50 a51 a52 a53 a54 a55 a56 a57 a58 a59 a60 a61 a62 a63 a64
    a65 a66 a67 a68 a69 a70 a71 a72 a73 a74 a75 a76 a77 a78 a79 a80 a81 a82 a83 a84 a85 a86 a87 a88 a89 a90 a91 a92 a93 a94 a95
    a96 a97 a98 a99 a100 a101 a102 a103 a104 a105 a106 a107 a108 a109 a110 a111 d) := by
  rw [arms_6
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _
    n hn]
  have H : AllAt (fun s a => n = s → P a) 0
      [a0 (), a1 (), a2 (), a3 (), a4 (), a5 (), a6 (), a7 (), a8 (), a9 (), a10 (), a11 (), a12 (), a13 (), a14 (), a15 (), a16
      (), a17 (), a18 (), a19 (), a20 (), a21 (), a22 (), a23 (), a24 (), a25 (), a26 (), a27 (), a28 (), a29 (), a30 (), a31 (),
      a32 (), a33 (), a34 (), a35 (), a36 (), a37 (), a38 (), a39 (), a40 (), a41 (), a42 (), a43 (), a44 (), a45 (), a46 (), a47
      (), a48 (), a49 (), a50 (), a51 (), a52 (), a53 (), a54 (), a55 (), a56 (), a57 (), a58 (), a59 (), a60 (), a61 (), a62 (),
      a63 (), a64 (), a65 (), a66 (), a67 (), a68 (), a69 (), a70 (), a71 (), a72 (), a73 (), a74 (), a75 (), a76 (), a77 (), a78
      (), a79 (), a80 (), a81 (), a82 (), a83 (), a84 (), a85 (), a86 (), a87 (), a88 (), a89 (), a90 (), a91 (), a92 (), a93 (),
      a94 (), a95 (), a96 (), a97 (), a98 (), a99 (), a100 (), a101 (), a102 (), a103 (), a104 (), a105 (), a106 (), a107 (), a108
      (), a109 (), a110 (), a111 ()] :=
    ⟨H0, H1, H2, H3, H4, H5, H6, H7, H8, H9, H10, H11, H12, H13, H14, H15, H16, H17, H18, H19, H20, H21, H22, H23, H24, H25, H26,
    H27, H28, H29, H30, H31, H32, H33, H34, H35, H36, H37, H38, H39, H40, H41, H42, H43, H44, H45, H46, H47, H48, H49, H50, H51,
    H52, H53, H54, H55, H56, H57, H58, H59, H60, H61, H62, H63, H64, H65, H66, H67, H68, H69, H70, H71, H72, H73, H74, H75, H76,
    H77, H78, H79, H80, H81, H82, H83, H84, H85, H86, H87, H88, H89, H90, H91, H92, H93, H94, H95, H96, H97, H98, H99, H100, H101,
    H102, H103, H104, H105, H106, H107, H108, H109, H110, H111, trivial⟩
  exact H.getD n hn (Nat.zero_add n).symm

end Cert.PairForm

end
-- ==== Proof.Group0.lean ====
/-
  The kernel's table, entries 0 to 32767: every block of 128 walked to its end.
-/
module

public import proofs.«01_k».proof.Proof.Marks

@[expose] public section

set_option maxRecDepth 16384
set_option maxHeartbeats 4000000

namespace Cert.PairForm

open Cert.KernelIdeal

theorem marked_0 (i : ℕ) (hi : i / 16384 = 0) : Marked i (lit0t1_0 i) := by
  apply group_5 (P := Marked i) (n := i / 128 % 128) (by omega)
  iterate 128 exact fun h => block_0 hi h (by decide +kernel)

theorem marked_1 (i : ℕ) (hi : i / 16384 = 1) : Marked i (lit0t1_1 i) := by
  apply group_5 (P := Marked i) (n := i / 128 % 128) (by omega)
  iterate 56 exact fun h => block_0 hi h (by decide +kernel)
  iterate 72 exact fun h => block_1 hi h (by decide +kernel)

end Cert.PairForm
-- ==== Proof.Group1.lean ====
/-
  The kernel's table, entries 32768 to 65535: every block of 128 walked to its end.
-/
module

public import proofs.«01_k».proof.Proof.Marks

@[expose] public section

set_option maxRecDepth 16384
set_option maxHeartbeats 4000000

namespace Cert.PairForm

open Cert.KernelIdeal

theorem marked_2 (i : ℕ) (hi : i / 16384 = 2) : Marked i (lit0t1_2 i) := by
  apply group_5 (P := Marked i) (n := i / 128 % 128) (by omega)
  iterate 125 exact fun h => block_1 hi h (by decide +kernel)
  iterate 3 exact fun h => block_2 hi h (by decide +kernel)

theorem marked_3 (i : ℕ) (hi : i / 16384 = 3) : Marked i (lit0t1_3 i) := by
  apply group_5 (P := Marked i) (n := i / 128 % 128) (by omega)
  iterate 128 exact fun h => block_2 hi h (by decide +kernel)

end Cert.PairForm
-- ==== Proof.Group2.lean ====
/-
  The kernel's table, entries 65536 to 98303: every block of 128 walked to its end.
-/
module

public import proofs.«01_k».proof.Proof.Marks

@[expose] public section

set_option maxRecDepth 16384
set_option maxHeartbeats 4000000

namespace Cert.PairForm

open Cert.KernelIdeal

theorem marked_4 (i : ℕ) (hi : i / 16384 = 4) : Marked i (lit0t1_4 i) := by
  apply group_5 (P := Marked i) (n := i / 128 % 128) (by omega)
  iterate 66 exact fun h => block_2 hi h (by decide +kernel)
  iterate 62 exact fun h => block_3 hi h (by decide +kernel)

theorem marked_5 (i : ℕ) (hi : i / 16384 = 5) : Marked i (lit0t1_5 i) := by
  apply group_5 (P := Marked i) (n := i / 128 % 128) (by omega)
  iterate 128 exact fun h => block_3 hi h (by decide +kernel)

end Cert.PairForm
-- ==== Proof.Group3.lean ====
/-
  The kernel's table, entries 98304 to 129023: every block of 128 walked to its end.
-/
module

public import proofs.«01_k».proof.Proof.Marks

@[expose] public section

set_option maxRecDepth 16384
set_option maxHeartbeats 4000000

namespace Cert.PairForm

open Cert.KernelIdeal

theorem marked_6 (i : ℕ) (hi : i / 16384 = 6) : Marked i (lit0t1_6 i) := by
  apply group_5 (P := Marked i) (n := i / 128 % 128) (by omega)
  iterate 7 exact fun h => block_3 hi h (by decide +kernel)
  iterate 121 exact fun h => block_4 hi h (by decide +kernel)

theorem marked_7 (i : ℕ) (hi : i / 16384 = 7) (hlt : i < 129024) : Marked i (lit0t1_7 i) := by
  apply group_6 (P := Marked i) (n := i / 128 % 128) (by omega)
  iterate 74 exact fun h => block_4 hi h (by decide +kernel)
  iterate 38 exact fun h => block_5 hi h (by decide +kernel)

end Cert.PairForm
-- ==== Proof.Occ.lean ====
/-
  The kernel's 64 × 2016 table says how often a column stands in a pair.
-/
module

public import proofs.«01_k».proof.Proof.Group0
public import proofs.«01_k».proof.Proof.Group1
public import proofs.«01_k».proof.Proof.Group2
public import proofs.«01_k».proof.Proof.Group3
public import Idealize.ShloMosaic.Lib.ValueIdx
public import Idealize.ShloMosaic.Lib.IdealHost

@[expose] public section

noncomputable section

namespace Cert.PairForm

open Cert.KernelIdeal Idealize.ShloMosaic

/-- Every entry of the table is right. -/
theorem marked (i : ℕ) (hi : i < 129024) : Marked i (lit0t i) := by
  rcases (by omega : i / 16384 = 0 ∨ i / 16384 = 1 ∨ i / 16384 = 2 ∨ i / 16384 = 3 ∨ i / 16384 = 4 ∨ i / 16384 = 5 ∨ i / 16384 = 6
    ∨ i / 16384 = 7) with h | h | h | h | h | h | h | h
  · have e : lit0t i = lit0t1_0 i := by unfold lit0t; rw [h]; rfl
    rw [e]; exact marked_0 i h
  · have e : lit0t i = lit0t1_1 i := by unfold lit0t; rw [h]; rfl
    rw [e]; exact marked_1 i h
  · have e : lit0t i = lit0t1_2 i := by unfold lit0t; rw [h]; rfl
    rw [e]; exact marked_2 i h
  · have e : lit0t i = lit0t1_3 i := by unfold lit0t; rw [h]; rfl
    rw [e]; exact marked_3 i h
  · have e : lit0t i = lit0t1_4 i := by unfold lit0t; rw [h]; rfl
    rw [e]; exact marked_4 i h
  · have e : lit0t i = lit0t1_5 i := by unfold lit0t; rw [h]; rfl
    rw [e]; exact marked_5 i h
  · have e : lit0t i = lit0t1_6 i := by unfold lit0t; rw [h]; rfl
    rw [e]; exact marked_6 i h
  · have e : lit0t i = lit0t1_7 i := by unfold lit0t; rw [h]; rfl
    rw [e]; exact marked_7 i h hi

/-- The table's number at column `n` and pair `p`: how often `n` stands in `p`. -/
theorem mark_occ (n : Fin 64) (p : Fin 2016) (k : Fin 129024) (hk : k.val = n.val * 2016 + p.val) :
    Ideal.ofBits .f32 (lit0 k) = ((occ rowOf colOf n p : ℝ) : EReal) := by
  have hlt : (rowOf p).val < (colOf p).val := pairs.lt p
  have e : lit0 k = markWord n (rowOf p) (colOf p) :=
    marked k.val k.isLt n (rowOf p) (colOf p) hlt (colOf p).isLt (by rw [pairPos_rowOf_colOf, hk])
  rw [e, occ]
  by_cases h1 : rowOf p = n
  · have h2 : ¬ colOf p = n := fun h => absurd hlt (by rw [h1, h]; exact lt_irrefl _)
    have w : markWord n (rowOf p) (colOf p) = 0x3F800000#32 := by simp [markWord, h1]
    rw [w, if_pos h1, if_neg h2, Ideal.ofBits_one_f32]
    norm_num
  · by_cases h2 : colOf p = n
    · have w : markWord n (rowOf p) (colOf p) = 0x3F800000#32 := by simp [markWord, h2]
      rw [w, if_neg h1, if_pos h2, Ideal.ofBits_one_f32]
      norm_num
    · have g1 : Nat.beq n (rowOf p) = false := by
        rw [Bool.eq_false_iff]; exact fun hh => h1 (Fin.ext (Nat.eq_of_beq_eq_true hh).symm)
      have g2 : Nat.beq n (colOf p) = false := by
        rw [Bool.eq_false_iff]; exact fun hh => h2 (Fin.ext (Nat.eq_of_beq_eq_true hh).symm)
      have w : markWord n (rowOf p) (colOf p) = 0x00000000#32 := by rw [markWord, g1, g2]; rfl
      rw [w, if_neg h1, if_neg h2, Ideal.ofBits_zero_f32]
      norm_num

end Cert.PairForm

end
-- ==== Proof.Prep.lean ====
/-
  What the first call leaves: the weights of the quadratic form, laid out one block of 64 rows per smaller column,
  and the linear weights. The layout is written by 63 stores of a slice each over a zeroed buffer: store `i` puts the
  pairs `(i, i + 1), …, (i, 63)` at rows `65 i + 1, …, 64 i + 63`, so row `64 i + j` ends at pair `(i, j)`'s weight for
  `i < j`, and at zero otherwise.
-/
module

public import proofs.«01_k».proof.Proof.Gen.KernelIdeal.Frame
public import proofs.«01_k».proof.Proof.Tables
public import Idealize.ShloMosaic.Lib.ValueIdx
public import Idealize.ShloMosaic.Lib.ValueLayout
public import Idealize.ShloMosaic.Lib.WholeRead
public import Idealize.ShloMosaic.Lib.MatmulPlain

@[expose] public section

set_option maxRecDepth 16384

noncomputable section

namespace Cert.KernelIdeal.Gen

open Idealize.ShloMosaic Idealize.ShloMosaic.TcCoe Idealize.ShloMosaic.ValueIdx Cert.PairForm

/-! ## The 63 stores -/

theorem start_add_le : ∀ n : Fin 63, start n + (63 - n) ≤ 2016 := by decide +kernel

section Stores

variable (a : FVec Ideal S2016x32 .f32)

theorem box_inb (n : ℕ) (hn : n < 63) :
    ∀ x : Fin 2, (![65 * n + 1, 0] : Fin 2 → ℕ) x + (![63 - n, 32] : Fin 2 → ℕ) x ≤ S4096x32.size x := by
  intro x
  match x with
  | ⟨0, _⟩ => show 65 * n + 1 + (63 - n) ≤ 4096; omega
  | ⟨1, _⟩ => show 0 + 32 ≤ 32; omega

theorem cut_slices (n : ℕ) (hn : n < 63) : S2016x32.Slices ![start n, 0] ⟨2, ![63 - n, 32]⟩ :=
  ⟨rfl, fun x => by
    match x with
    | ⟨0, _⟩ => exact start_add_le ⟨n, hn⟩
    | ⟨1, _⟩ => show 0 + 32 ≤ 32; omega⟩

/-- Store `n`: the pairs whose smaller column is `n`. -/
def box (n : ℕ) (hn : n < 63) : View.Piece (Elt Ideal) S4096x32 .f32 :=
  ⟨Rect.unit (s := S4096x32) ![65 * n + 1, 0] ![63 - n, 32] (box_inb n hn),
    extractStridedSlice ⟨2, ![63 - n, 32]⟩ ![start n, 0] a (cut_slices n hn)⟩

/-- The zeroing store and the first `n` others, last first. -/
def boxes : (n : ℕ) → n ≤ 63 → List (View.Piece (Elt Ideal) S4096x32 .f32)
  | 0, _ => [⟨Rect.unit (s := S4096x32) ![0, 0] ![4096, 32] inb_S4096x32_S4096x32_0_0, k0_pay11 (F := Ideal)⟩]
  | n + 1, h => box a n h :: boxes n (Nat.le_of_lt h)

theorem not_mem_box (n : ℕ) (hn : n < 63) (i j : ℕ) (hj : j < 64) (y : S4096x32.Idx) (hy : (y 0).val = 64 * i + j)
    (h : ¬(i = n ∧ i < j)) : y ∉ (box a n hn).1.set := by
  unfold box
  intro hm
  have h0 := (Rect.mem_set_unit (inb := box_inb n hn).mp hm) 0
  rw [hy] at h0
  obtain ⟨h1, h2⟩ : 65 * n + 1 ≤ 64 * i + j ∧ 64 * i + j < 65 * n + 1 + (63 - n) := h0
  omega

theorem boxes_zero (i j : ℕ) (hj : j < 64) (hij : ¬ i < j) (y : S4096x32.Idx) (hy : (y 0).val = 64 * i + j) :
    ∀ (n : ℕ) (hn : n ≤ 63), View.canon (boxes a n hn) y = (0 : EReal)
  | 0, _ => by
    rw [boxes, View.canon_unit_zero]
    · exact Ideal.ofBits_zero_f32
    · funext x; match x with | ⟨0, _⟩ => rfl | ⟨1, _⟩ => rfl
  | n + 1, hn => by
    rw [boxes, View.canon_cons_of_not_mem _ _ (not_mem_box a n hn i j hj y hy fun h => hij h.2)]
    exact boxes_zero i j hj hij y hy n _

theorem boxes_pair (i j : Fin 64) (hij : i < j) (q : Fin 32) (r : Fin 4096) (hr : r.val = 64 * i + j) :
    ∀ (n : ℕ) (hn : n ≤ 63), i < n → View.canon (boxes a n hn) (ix2 r q) = a (ix2 ⟨pairPos i j, pairPos_lt i j hij⟩ q)
  | 0, _, h => absurd h (Nat.not_lt_zero _)
  | n + 1, hn, h => by
    rw [boxes]
    by_cases he : i.val = n
    · have hb : ix2 r q = (Rect.unit (s := S4096x32) ![65 * n + 1, 0] ![63 - n, 32] (box_inb n hn)).emb
          (ix2 (⟨j.val - i.val - 1, by have := j.isLt; have : i.val < j.val := hij; omega⟩ : Fin (63 - n)) q) := by
        refine (Rect.emb_eq_of_coords _ _ _ fun x => ?_).symm
        match x with
        | ⟨0, _⟩ =>
          show r.val = 65 * n + 1 + 1 * (j.val - i.val - 1)
          have : i.val < j.val := hij
          omega
        | ⟨1, _⟩ => show q.val = 0 + 1 * q.val; omega
      rw [hb, box, View.canon_cons_emb]
      exact slice2_axis0_apply (start n) a _ _ q ⟨pairPos i j, pairPos_lt i j hij⟩ (by
        show pairPos i j = start n + (j.val - i.val - 1)
        rw [pairPos, he])
    · rw [View.canon_cons_of_not_mem _ _ (not_mem_box a n hn i j j.isLt (ix2 r q) hr fun h => he h.1)]
      exact boxes_pair i j hij q r hr n _ (by omega)

end Stores

/-! ## The two outputs of the call -/

section Outputs

variable (c : Dev nD) (arg0 : Memref sig .tc .vmem S6048x32 .f32) (harg0 : arg0.IsWhole)
  (arg1 : Memref sig .tc .vmem S64x2016 .f32) (harg1 : arg1.IsWhole) (arg2 : Memref sig .tc .vmem S4096x32 .f32)
  (harg2 : arg2.IsWhole) (arg3 : Memref sig .tc .vmem S64x32 .f32) (harg3 : arg3.IsWhole)
  (x0 : Vec Ideal S6048x32 .f32) (x1 : Vec Ideal S64x2016 .f32)

/-- The quadratic weights: and's, less or's, less twice exclusive or's. -/
def quadW : FVec Ideal S2016x32 .f32 := kernelRun0_A.sl.r c arg0 harg0 x0

/-- The linear weights of a pair: or's plus exclusive or's. -/
def linW : FVec Ideal S2016x32 .f32 := kernelRun0_A.sl.r_1 c arg0 harg0 x0

theorem load_rows (o : ℕ) (inb) (p : Fin 2016) (q : Fin 32) (k : Fin 6048) (hk : k.val = o + p.val) :
    View.readAt (Elt Ideal) arg0.view (Rect.unit (s := S6048x32) ![o, 0] S2016x32.size inb).toLoadRect (harg0.unread x0) (ix2 p q)
      = x0 (ix2 k q) := by
  rw [View.readAt_eq_ld, harg0.read_unread]
  refine congrArg x0 (funext fun x => Fin.ext ?_)
  match x with
  | ⟨0, _⟩ => show o + 1 * p.val = k.val; omega
  | ⟨1, _⟩ => show 0 + 1 * q.val = q.val; omega

theorem quadW_apply (p : Fin 2016) (q : Fin 32) : quadW c arg0 harg0 x0 (ix2 p q)
    = x0 (ix2 ⟨p, by omega⟩ q) - x0 (ix2 ⟨2016 + p, by omega⟩ q) - Ideal.ofBits .f32 0x40000000#32 * x0 (ix2 ⟨4032 + p, by omega⟩ q) := by
  unfold quadW kernelRun0_A.sl.r k0_pay9
  simp only [subf_apply, mulf_apply]
  rw [load_rows arg0 harg0 x0 0 _ p q ⟨p, by omega⟩ (Nat.zero_add _).symm, load_rows arg0 harg0 x0 2016 _ p q ⟨2016 + p, by omega⟩ rfl,
    load_rows arg0 harg0 x0 4032 _ p q ⟨4032 + p, by omega⟩ rfl]
  rfl

theorem linW_apply (p : Fin 2016) (q : Fin 32) : linW c arg0 harg0 x0 (ix2 p q)
    = x0 (ix2 ⟨2016 + p, by omega⟩ q) + x0 (ix2 ⟨4032 + p, by omega⟩ q) := by
  unfold linW kernelRun0_A.sl.r_1 k0_pay10
  simp only [addf_apply]
  rw [load_rows arg0 harg0 x0 2016 _ p q ⟨2016 + p, by omega⟩ rfl,
    load_rows arg0 harg0 x0 4032 _ p q ⟨4032 + p, by omega⟩ rfl]

/-- The first output's stores are the boxes. -/
theorem pieces_eq : (kernelRun0_A c arg0 harg0 arg1 harg1 arg2 harg2 arg3 harg3 x0 x1).1
    = boxes (quadW c arg0 harg0 x0) 63 le_rfl := by sl_kernel_rfl

/-- The first output is the boxes read back. -/
theorem out2_eq : out0_A_2 c arg0 harg0 arg1 harg1 arg2 harg2 arg3 harg3 x0 x1
    = View.canon (boxes (quadW c arg0 harg0 x0) 63 le_rfl) := by
  unfold out0_A_2
  rw [View.read_writes_junk_eq_canon, pieces_eq]

theorem out2_zero (i j : Fin 64) (hij : ¬ i < j) (q : Fin 32) (r : Fin 4096) (hr : r.val = 64 * i + j) :
    out0_A_2 c arg0 harg0 arg1 harg1 arg2 harg2 arg3 harg3 x0 x1 (ix2 r q) = (0 : EReal) := by
  rw [out2_eq]; exact boxes_zero _ i j j.isLt hij _ hr _ _

theorem out2_pair (i j : Fin 64) (hij : i < j) (q : Fin 32) (r : Fin 4096) (hr : r.val = 64 * i + j) :
    out0_A_2 c arg0 harg0 arg1 harg1 arg2 harg2 arg3 harg3 x0 x1 (ix2 r q)
      = quadW c arg0 harg0 x0 (ix2 ⟨pairPos i j, pairPos_lt i j hij⟩ q) := by
  rw [out2_eq]
  exact boxes_pair _ i j hij q r hr _ _ (by have := j.isLt; have : i.val < j.val := hij; omega)

theorem dot_prep_eq : dot_S64x2016_S2016x32_S64x32_1_0_0_1_n_n = DotDims.plain 64 2016 32 := rfl

/-- The second output: the table against the linear weights. -/
theorem out3_apply (n : Fin 64) (q : Fin 32) :
    out0_A_3 c arg0 harg0 arg1 harg1 arg2 harg2 arg3 harg3 x0 x1 (ix2 n q)
      = ∑ p : Fin 2016, x1 (ix2 n p) * linW c arg0 harg0 x0 (ix2 p q) := by
  have e : (kernelRun0_A c arg0 harg0 arg1 harg1 arg2 harg2 arg3 harg3 x0 x1).2.1
      = [⟨Rect.unit (s := S64x32) ![0, 0] S64x32.size inb_S64x32_S64x32_0_0, k0_pay8 (linW c arg0 harg0 x0)
          (View.readAt (Elt Ideal) arg1.view (Rect.unit (s := S64x2016) ![0, 0] ![64, 2016] inb_S64x2016_S64x2016_0_0).toLoadRect
            (harg1.unread x1))⟩] := by sl_kernel_rfl
  unfold out0_A_3
  rw [View.read_writes_junk_eq_canon, e]
  rw [View.canon_unit_zero (S := S64x32) (by funext x; match x with | ⟨0, _⟩ => rfl | ⟨1, _⟩ => rfl)]
  unfold k0_pay8
  simp only [matmul]
  rw [dot_prep_eq, Ideal.matmul_plain_apply]
  have hz : (constant S64x32 .f32 0x00000000#32 : FVec Ideal S64x32 .f32) (ix2 n q) = 0 := Ideal.ofBits_zero_f32
  rw [hz, zero_add]
  refine Finset.sum_congr rfl fun p _ => ?_
  congr 1
  rw [View.readAt_eq_ld, harg1.read_unread]
  refine congrArg x1 (funext fun x => Fin.ext ?_)
  match x with
  | ⟨0, _⟩ => show 0 + 1 * n.val = n.val; omega
  | ⟨1, _⟩ => show 0 + 1 * p.val = p.val; omega

end Outputs

end Cert.KernelIdeal.Gen

end
-- ==== Proof.RefValue.lean ====
/-
  The reference's result at an index: the three sums over the pairs of columns, each gate against its own block of
  2016 rows of the weights, plus the bias.
-/
module

public import proofs.«01_k».proof.Proof.Tables
public import Idealize.ShloMosaic.Lib.ValueIdx
public import Idealize.ShloMosaic.Lib.IdealHost
public import Idealize.ShloMosaic.Lib.Pipeline.Value

@[expose] public section

noncomputable section

open scoped BigOperators

namespace Cert.PairForm

open Cert.ReferenceIdeal Cert.ReferenceIdeal.Gen Idealize.ShloMosaic Idealize.ShloMosaic.TcCoe Idealize.ShloMosaic.ValueIdx

/-! ## Taking columns by a table of words -/

section Take

variable (w : IVec S2016 32)

/-- The table as the take reads it: a negative word counted from the end, one index per row. -/
abbrev wrapped : IVec S2016x1 32 :=
  broadcastInDim S2016x1 ![0] bcast_S2016_S2016x1_0
    (select (cmpi .slt w (broadcastInDim S2016 ![] bcast_S_S2016 (constantI S_ 32 0#32)))
      (addi w (broadcastInDim S2016 ![] bcast_S_S2016 (constantI S_ 32 64#32))) w)

/-- The bit that says an index is a column's. -/
abbrev inside : IVec S2016 1 :=
  Host.reduce IntOp.andi
    (andi (cmpi .sge (wrapped w) (broadcastInDim S2016x1 ![] bcast_S_S2016x1 (constantI S_ 32 0#32)))
      (cmpi .sle (wrapped w) (broadcastInDim S2016x1 ![0, 1] bcast_S1x1_S2016x1_0_1
        (broadcastInDim S1x1 ![1] bcast_S1_S1x1_1 (constantI S1 32 63#32)))))
    (constantI S_ 1 1#1) reducesTo_S2016x1_S2016_d1 h_S_

/-- The columns taken by the table. -/
abbrev taken (x : FVec Ideal S256x8x64 .f32) : FVec Ideal S256x8x2016 .f32 :=
  select (broadcastInDim S256x8x2016 ![2] bcast_S2016_S256x8x2016_2 (inside w))
    (Host.gather gather_S256x8x64_S2016x1_S256x8x2016_01_2_n_n_2_1_25681 x (wrapped w))
    (broadcastInDim S256x8x2016 ![] bcast_S_S256x8x2016 (constant S_ .f32 0x7FC00000#32))

/-- A word below 64 is not negative, read signed. -/
theorem not_slt_zero (v : BitVec 32) (h : v.toNat < 64) : v.slt 0#32 = false := by
  have : v.toInt = v.toNat := BitVec.toInt_eq_toNat_of_lt (by omega)
  simp only [BitVec.slt, this, decide_eq_false_iff_not]
  simp

theorem zero_sle (v : BitVec 32) (h : v.toNat < 64) : (0#32).sle v = true := by
  have : v.toInt = v.toNat := BitVec.toInt_eq_toNat_of_lt (by omega)
  simp only [BitVec.sle, this, decide_eq_true_eq]
  simp

theorem sle_63 (v : BitVec 32) (h : v.toNat < 64) : v.sle 63#32 = true := by
  have : v.toInt = v.toNat := BitVec.toInt_eq_toNat_of_lt (by omega)
  simp only [BitVec.sle, this, decide_eq_true_eq]
  have h63 : (63#32).toInt = 63 := by decide
  rw [h63]; omega

variable {w} {r : Fin 2016 → Fin 64} (hw : ∀ p, (w (ix1 p)).toNat = (r p).val)

include hw in
theorem wrapped_apply (p : Fin 2016) (z : Fin 1) : wrapped w (ix2 p z) = w (ix1 p) := by
  unfold wrapped
  rw [broadcastInDim_apply _ _ _ _ (ix1 p) (by intro a; match a with | ⟨0, _⟩ => rfl)]
  have h : (w (ix1 p)).toNat < 64 := by rw [hw]; exact (r p).isLt
  show Scalar.select (BitVec.ofBool ((w (ix1 p)).slt 0#32)) _ _ = _
  rw [not_slt_zero _ h]
  rfl

/-- A conjunction of ones, from one, is one. -/
theorem foldl_andi_ones {ι : Type} (f : ι → BitVec 1) (h : ∀ i, f i = 1#1) (l : List ι) :
    l.foldl (fun r n => IntOp.andi r (f n)) 1#1 = 1#1 := by
  induction l with
  | nil => rfl
  | cons a l ih => rw [List.foldl_cons, h a]; exact ih

include hw in
theorem inside_apply (j : S2016.Idx) : inside w j = 1#1 := by
  unfold inside Host.reduce
  refine foldl_andi_ones (fun n => _) (fun n => ?_) _
  generalize S2016x1.rowMajor.symm n = i
  obtain ⟨p, z, rfl⟩ : ∃ (p : Fin 2016) (z : Fin 1), i = ix2 p z := ⟨i 0, i 1, eq_ix2 i⟩
  have h : (w (ix1 p)).toNat < 64 := by rw [hw]; exact (r p).isLt
  show IntOp.andi (BitVec.ofBool ((0#32).sle (wrapped w (ix2 p z)))) (BitVec.ofBool ((wrapped w (ix2 p z)).sle 63#32)) = 1#1
  rw [wrapped_apply hw, zero_sle _ h, sle_63 _ h]
  rfl

include hw in
theorem taken_apply (x : FVec Ideal S256x8x64 .f32) (b : Fin 256) (k : Fin 8) (p : Fin 2016) :
    taken w x (ix3 b k p) = x (ix3 b k (r p)) := by
  unfold taken
  rw [select_apply, broadcastInDim_apply _ _ _ _ (ix1 p) (by intro a; match a with | ⟨0, _⟩ => rfl), inside_apply hw,
    select_one]
  unfold Host.gather
  refine congrArg x (funext fun a => Fin.ext ?_)
  have hmem : (2 : Fin 3) ∈ gather_S256x8x64_S2016x1_S256x8x2016_01_2_n_n_2_1_25681.startIndexMap := by decide
  have hsi : gather_S256x8x64_S2016x1_S256x8x2016_01_2_n_n_2_1_25681.siIdx (ix3 b k p)
      ⟨gather_S256x8x64_S2016x1_S256x8x2016_01_2_n_n_2_1_25681.startIndexMap.idxOf 2, List.idxOf_lt_length_iff.2 hmem⟩ = ix2 p 0 := by
    funext c; refine Fin.ext ?_
    match c with
    | ⟨0, _⟩ => rfl
    | ⟨1, _⟩ => rfl
  match a with
  | ⟨0, _⟩ => exact Nat.zero_add _
  | ⟨1, _⟩ => exact Nat.zero_add _
  | ⟨2, _⟩ =>
    show GatherDims.start _ (ix3 b k p) (wrapped w) 2 + 0 + 0 = (r p).val
    unfold GatherDims.start
    rw [dif_pos hmem, hsi, wrapped_apply hw]
    have hlt : (w (ix1 p)).toNat < 64 := by rw [hw]; exact (r p).isLt
    have hi : (w (ix1 p)).toInt = (w (ix1 p)).toNat := BitVec.toInt_eq_toNat_of_lt (by omega)
    rw [hi, Int.toNat_natCast, hw]
    have := (r p).isLt
    exact Nat.min_eq_left (show (r p).val ≤ 64 - 1 by omega)

end Take

/-! ## The contraction -/

/-- A sum over the 6048 gates is the sums over the three blocks of 2016. -/
theorem sum_blocks (f : Fin 6048 → EReal) :
    ∑ q, f q = ∑ p : Fin 2016, f ⟨p, by omega⟩ + ∑ p : Fin 2016, f ⟨2016 + p, by omega⟩
      + ∑ p : Fin 2016, f ⟨4032 + p, by omega⟩ := by
  have h := Fin.sum_univ_add (M := EReal) (a := 2016 + 2016) (b := 2016) f
  rw [Fin.sum_univ_add (M := EReal) (a := 2016) (b := 2016)] at h
  exact h

/-- The contraction's index is its one coordinate. -/
abbrev overGates := contrEquiv1 dot_S256x8x6048_S6048x32_S256x8x32_2_0_01_1_n_n 6048 (by decide) (by decide)

theorem dot_apply (g : FVec Ideal S256x8x6048 .f32) (W : FVec Ideal S6048x32 .f32) (b : Fin 256) (k : Fin 8) (q : Fin 32) :
    Host.dotGeneral dot_S256x8x6048_S6048x32_S256x8x32_2_0_01_1_n_n none g W (ix3 b k q)
      = ∑ l : Fin 6048, g (ix3 b k l) * W (ix2 l q) := by
  simp only [Host.dotGeneral]
  rw [Ideal.dotGeneral_apply, ← Equiv.sum_comp overGates.symm]
  refine Finset.sum_congr rfl fun l _ => ?_
  congr 2
  · funext a
    match a with
    | ⟨0, _⟩ => rfl
    | ⟨1, _⟩ => rfl
    | ⟨2, _⟩ => rfl
  · funext a
    match a with
    | ⟨0, _⟩ => rfl
    | ⟨1, _⟩ => rfl

/-! ## The gates -/

/-- The gates of every pair, block after block: and, or, exclusive or. -/
abbrev gates (u v : FVec Ideal S256x8x2016 .f32) : FVec Ideal S256x8x6048 .f32 :=
  concatenate S256x8x6048 2 [⟨S256x8x2016, mulf u v⟩, ⟨S256x8x2016, subf (addf u v) (mulf u v)⟩,
    ⟨S256x8x2016, subf (addf u v) (mulf (mulf (broadcastInDim S256x8x2016 ![] bcast_S_S256x8x2016 (constant S_ .f32 0x40000000#32)) u) v)⟩]
    concatenates_S256x8x2016_S256x8x2016_S256x8x2016_S256x8x6048_d2

/-- The word `0x40000000` is two. -/
theorem ofBits_two : Ideal.ofBits .f32 0x40000000#32 = ((2 : ℝ) : EReal) := by
  simp [Ideal.ofBits, Ideal.ieee, -EReal.coe_mul]; norm_num

variable (u v : FVec Ideal S256x8x2016 .f32) (b : Fin 256) (k : Fin 8) (p : Fin 2016)

theorem gates_and : gates u v (ix3 b k ⟨p, by omega⟩) = u (ix3 b k p) * v (ix3 b k p) := by
  rw [gates, concatenate_apply_piece (t := S256x8x6048) (2 : Fin 3) _ _ _ 0 (by show 0 < 3; omega) S256x8x2016 _ rfl rfl 0 rfl (ix3 b k p)
    (by intro a ha; match a with | ⟨0, _⟩ => rfl | ⟨1, _⟩ => rfl | ⟨2, _⟩ => exact absurd rfl ha) (Nat.zero_add _)]
  rfl

theorem gates_or : gates u v (ix3 b k ⟨2016 + p, by omega⟩)
    = u (ix3 b k p) + v (ix3 b k p) - u (ix3 b k p) * v (ix3 b k p) := by
  rw [gates, concatenate_apply_piece (t := S256x8x6048) (2 : Fin 3) _ _ _ 1 (by show 1 < 3; omega) S256x8x2016 _ rfl rfl 2016 rfl (ix3 b k p)
    (by intro a ha; match a with | ⟨0, _⟩ => rfl | ⟨1, _⟩ => rfl | ⟨2, _⟩ => exact absurd rfl ha) rfl]
  rfl

theorem gates_xor : gates u v (ix3 b k ⟨4032 + p, by omega⟩)
    = u (ix3 b k p) + v (ix3 b k p) - ((2 : ℝ) : EReal) * u (ix3 b k p) * v (ix3 b k p) := by
  rw [gates, concatenate_apply_piece (t := S256x8x6048) (2 : Fin 3) _ _ _ 2 (by show 2 < 3; omega) S256x8x2016 _ rfl rfl 4032 rfl (ix3 b k p)
    (by intro a ha; match a with | ⟨0, _⟩ => rfl | ⟨1, _⟩ => rfl | ⟨2, _⟩ => exact absurd rfl ha) rfl, ← ofBits_two]
  rfl

/-! ## The result -/

/-- What the reference computes at row `(b, k)` and output `q`: the three blocks of gates against the weights, plus the
    bias. -/
def plain (x : Fin 64 → EReal) (W : Fin 6048 → EReal) : EReal :=
  ∑ p, x (rowOf p) * x (colOf p) * W ⟨p, by omega⟩
    + ∑ p, (x (rowOf p) + x (colOf p) - x (rowOf p) * x (colOf p)) * W ⟨2016 + p, by omega⟩
    + ∑ p, (x (rowOf p) + x (colOf p) - ((2 : ℝ) : EReal) * x (rowOf p) * x (colOf p)) * W ⟨4032 + p, by omega⟩

/-- A position of a list is its own row-major number. -/
theorem row_position (p : Fin 2016) : (S2016.rowMajor (ix1 p)).val = p.val := by
  show (Shape.rowMajorPi ![2016] (ix1 p)).val = p.val
  rw [Shape.rowMajorPi_succ_val]
  show p.val * 1 + 0 = p.val
  omega

/-- The first table's words are the smaller columns. -/
theorem first_word (p : Fin 2016) : (lit0 (S2016.rowMajor (ix1 p))).toNat = (rowOf p).val := by
  rw [show S2016.rowMajor (ix1 p) = p from Fin.ext (row_position p)]; rfl

/-- The second table's words are the larger columns. -/
theorem second_word (p : Fin 2016) : (lit1 (S2016.rowMajor (ix1 p))).toNat = (colOf p).val := by
  rw [show S2016.rowMajor (ix1 p) = p from Fin.ext (row_position p)]; rfl

variable (m : (ℓ : Loc nD τ sig) → Buf (Elt Ideal) ℓ) (c : Dev nD)

/-- The arguments, as arrays. -/
abbrev inArr : FVec Ideal S256x8x64 .f32 := m ((c.tc : Thread nD τ).loc main_arg0)
abbrev wArr : FVec Ideal S6048x32 .f32 := m ((c.tc : Thread nD τ).loc main_arg1)
abbrev bArr : FVec Ideal S32 .f32 := m ((c.tc : Thread nD τ).loc main_arg2)

theorem res_apply (q : Fin 32) : (Value.res_main_v15 m c : FVec Ideal S256x8x32 .f32) (ix3 b k q)
    = plain (fun n => inArr m c (ix3 b k n)) (fun l => wArr m c (ix2 l q)) + bArr m c (ix1 q) := by
  have e : (Value.res_main_v15 m c : FVec Ideal S256x8x32 .f32)
      = addf (Host.dotGeneral dot_S256x8x6048_S6048x32_S256x8x32_2_0_01_1_n_n none
          (gates (taken (fun i => lit0 (S2016.rowMajor i)) (inArr m c)) (taken (fun i => lit1 (S2016.rowMajor i)) (inArr m c))) (wArr m c))
        (broadcastInDim S256x8x32 ![0, 1, 2] bcast_S1x1x32_S256x8x32_0_1_2
          (broadcastInDim S1x1x32 ![2] bcast_S32_S1x1x32_2 (bArr m c))) := by
    unfold Value.res_main_v15; rfl
  rw [e, addf_apply, dot_apply, sum_blocks,
    broadcastInDim_apply _ _ _ _ (ix3 0 0 q) (by intro a; match a with | ⟨0, _⟩ => rfl | ⟨1, _⟩ => rfl | ⟨2, _⟩ => rfl),
    broadcastInDim_apply _ _ _ _ (ix1 q) (by intro a; match a with | ⟨0, _⟩ => rfl)]
  simp only [gates_and, gates_or, gates_xor]
  simp only [taken_apply (w := fun i => lit0 (S2016.rowMajor i)) first_word, taken_apply (w := fun i => lit1 (S2016.rowMajor i)) second_word]
  rfl

end Cert.PairForm

end
-- ==== Proof.Main.lean ====
/-
  The kernel's result at an index, followed back through the two calls to the arguments: it is the plain form of the
  reference, provided the inputs and the weights are finite.
-/
module

public import proofs.«01_k».proof.Proof.Alg
public import proofs.«01_k».proof.Proof.Arrays
public import proofs.«01_k».proof.Proof.Block
public import proofs.«01_k».proof.Proof.Occ
public import proofs.«01_k».proof.Proof.Prep
public import proofs.«01_k».proof.Proof.RefValue

@[expose] public section

set_option maxRecDepth 16384

noncomputable section

open scoped BigOperators

namespace Cert.KernelIdeal.Gen

open Idealize.ShloMosaic Idealize.ShloMosaic.TcCoe Idealize.ShloMosaic.ValueIdx
open Cert.PairForm

/-! ## Row-major positions -/

theorem position1 (a : ℕ) (i : Fin a) : ((⟨1, ![a]⟩ : Shape).rowMajor (ix1 i)).val = i.val := by
  show (Shape.rowMajorPi ![a] (ix1 i)).val = i.val
  rw [Shape.rowMajorPi_succ_val]
  show i.val * 1 + 0 = i.val
  omega

theorem position2 (a b : ℕ) (i : Fin a) (j : Fin b) :
    ((⟨2, ![a, b]⟩ : Shape).rowMajor (ix2 i j)).val = i.val * b + j.val := by
  show (Shape.rowMajorPi ![a, b] (ix2 i j)).val = _
  rw [Shape.rowMajorPi_succ_val, Shape.rowMajorPi_succ_val]
  show i.val * (b * 1) + (j.val * 1 + 0) = _
  rw [Nat.mul_one, Nat.mul_one, Nat.add_zero]

theorem position3 (a b d : ℕ) (i : Fin a) (j : Fin b) (k : Fin d) :
    ((⟨3, ![a, b, d]⟩ : Shape).rowMajor (ix3 i j k)).val = i.val * (b * d) + (j.val * d + k.val) := by
  show (Shape.rowMajorPi ![a, b, d] (ix3 i j k)).val = _
  rw [Shape.rowMajorPi_succ_val, Shape.rowMajorPi_succ_val, Shape.rowMajorPi_succ_val]
  show i.val * (b * (d * 1)) + (j.val * (d * 1) + (k.val * 1 + 0)) = _
  rw [Nat.mul_one, Nat.mul_one, Nat.add_zero]

variable (m : (ℓ : Loc nD τ sig) → Buf (Elt Ideal) ℓ) (ρ : Dev nD → PrngReg) (c : Dev nD)

/-- The three arguments as arrays. -/
abbrev argX : FVec Ideal S256x8x64 .f32 := m ((c : Thread nD τ).loc main_arg0)
abbrev argW : FVec Ideal S6048x32 .f32 := m ((c : Thread nD τ).loc main_arg1)
abbrev argB : FVec Ideal S32 .f32 := m ((c : Thread nD τ).loc main_arg2)

/-! ## What the first call reads and leaves -/

theorem weights_in : (iblk0 (V1 m ρ) c 0 t0_0 : FVec Ideal S6048x32 .f32) = argW m c :=
  (read0_0 t0_0 _).trans (W1_args m ρ c main_arg1 (by decide))

theorem table_in (n : Fin 64) (p : Fin 2016) : (iblk0 (V1 m ρ) c 1 t0_0 : FVec Ideal S64x2016 .f32) (ix2 n p)
    = ((occ rowOf colOf n p : ℝ) : EReal) := by
  have e : (iblk0 (V1 m ρ) c 1 t0_0 : FVec Ideal S64x2016 .f32)
      = fun i => FloatOps.ofBits (F := Ideal) .f32 (lit0 (S64x2016.rowMajor i)) :=
    (read0_1 t0_0 _).trans (W1_cst m ρ c)
  rw [e]
  exact mark_occ n p _ (position2 64 2016 n p)

/-- The folded quadratic weights. -/
abbrev quad : FVec Ideal S4096x32 .f32 := W2 m ρ c (Proc.devRef .tc main_v2_0)
/-- The folded linear weights. -/
abbrev lin : FVec Ideal S64x32 .f32 := W2 m ρ c (Proc.devRef .tc main_v2_1)

theorem quad_eq : quad m ρ c = (outsAt0 (V1 m ρ) c t0_0).1 :=
  (W2_arr m ρ c 2).trans (final0_2 (V1 m ρ) c)

theorem lin_eq : lin m ρ c = (outsAt0 (V1 m ρ) c t0_0).2 :=
  (W2_arr m ρ c 3).trans (final0_3 (V1 m ρ) c)

theorem quad_zero (i j : Fin 64) (hij : ¬ i < j) (q : Fin 32) (r : Fin 4096) (hr : r.val = 64 * i + j) :
    quad m ρ c (ix2 r q) = (0 : EReal) := by
  rw [quad_eq]
  exact out2_zero c (ms0_0 t0_0) (hs0_0 t0_0) (ms0_1 t0_0) (hs0_1 t0_0) (ms0_2 t0_0) (hs0_2 t0_0) (ms0_3 t0_0) (hs0_3 t0_0)
    (iblk0 (V1 m ρ) c 0 t0_0) (iblk0 (V1 m ρ) c 1 t0_0) i j hij q r hr

theorem quad_pair (p : Fin 2016) (q : Fin 32) (r : Fin 4096) (hr : r.val = 64 * rowOf p + colOf p) :
    quad m ρ c (ix2 r q) = argW m c (ix2 ⟨p, by omega⟩ q) - argW m c (ix2 ⟨2016 + p, by omega⟩ q)
      - ((2 : ℝ) : EReal) * argW m c (ix2 ⟨4032 + p, by omega⟩ q) := by
  rw [quad_eq]
  refine (out2_pair c (ms0_0 t0_0) (hs0_0 t0_0) (ms0_1 t0_0) (hs0_1 t0_0) (ms0_2 t0_0) (hs0_2 t0_0) (ms0_3 t0_0) (hs0_3 t0_0)
    (iblk0 (V1 m ρ) c 0 t0_0) (iblk0 (V1 m ρ) c 1 t0_0) (rowOf p) (colOf p) (pairs.lt p) q r hr).trans ?_
  have hp : (⟨pairPos (rowOf p) (colOf p), pairPos_lt _ _ (pairs.lt p)⟩ : Fin 2016) = p :=
    Fin.ext (pairPos_rowOf_colOf p)
  rw [hp, quadW_apply, ofBits_two, weights_in]

theorem lin_apply (n : Fin 64) (q : Fin 32) : lin m ρ c (ix2 n q)
    = ∑ p : Fin 2016, ((occ rowOf colOf n p : ℝ) : EReal)
        * (argW m c (ix2 ⟨2016 + p, by omega⟩ q) + argW m c (ix2 ⟨4032 + p, by omega⟩ q)) := by
  rw [lin_eq]
  refine (out3_apply c (ms0_0 t0_0) (hs0_0 t0_0) (ms0_1 t0_0) (hs0_1 t0_0) (ms0_2 t0_0) (hs0_2 t0_0) (ms0_3 t0_0) (hs0_3 t0_0)
    (iblk0 (V1 m ρ) c 0 t0_0) (iblk0 (V1 m ρ) c 1 t0_0) n q).trans (Finset.sum_congr rfl fun p _ => ?_)
  rw [table_in, linW_apply, weights_in]

/-! ## What the second call reads -/

theorem inputs_in (t : Fin cfg1.N) (r : Fin 512) (b : Fin 256) (k : Fin 8) (j : Fin 64)
    (h : 8 * b.val + k.val = 512 * t.val + r.val) :
    (iblk1 (V3 m ρ) c 0 t : FVec Ideal S512x64 .f32) (ix2 r j) = argX m c (ix3 b k j) := by
  have hR : 512 * t.val + r.val < 2048 := by omega
  refine (read1_0 t _ r j ⟨512 * t.val + r.val, hR⟩ rfl).trans ?_
  have e : (V3 m ρ c main_v0 : FVec Ideal S2048x64 .f32)
      = shapeCast S2048x64 (argX m c) shapeCasts_S256x8x64_S2048x64 :=
    (W3_of m ρ c main_v0 (by decide)).trans ((W2_of_ne m ρ c main_v0 (by decide)).trans (W1_v0 m ρ c))
  refine (congrFun e _).trans (shapeCast_apply _ _ _ (ix3 b k j) ?_)
  rw [position3, position2]
  show b.val * (8 * 64) + (k.val * 64 + j.val) = (512 * t.val + r.val) * 64 + j.val
  omega

theorem quad_in (t : Fin cfg1.N) (j k : Fin 64) (q : Fin 32) :
    (iblk1 (V3 m ρ) c 1 t : FVec Ideal S64x2048 .f32) (ix2 j ⟨32 * k + q, by omega⟩)
      = quad m ρ c (ix2 ⟨64 * j + k, by omega⟩ q) := by
  have e : (iblk1 (V3 m ρ) c 1 t : FVec Ideal S64x2048 .f32)
      = shapeCast S64x2048 (quad m ρ c) shapeCasts_S4096x32_S64x2048 :=
    (read1_1 t _).trans (W3_v3 m ρ c)
  refine (congrFun e _).trans (shapeCast_apply _ _ _ (ix2 ⟨64 * j + k, by omega⟩ q) ?_)
  rw [position2, position2]
  show (64 * j.val + k.val) * 32 + q.val = j.val * 2048 + (32 * k.val + q.val)
  omega

theorem lin_in (t : Fin cfg1.N) : (iblk1 (V3 m ρ) c 2 t : FVec Ideal S64x32 .f32) = lin m ρ c :=
  (read1_2 t _).trans (W3_of m ρ c main_v2_1 (by decide))

theorem bias_in (t : Fin cfg1.N) (q : Fin 32) :
    (iblk1 (V3 m ρ) c 3 t : FVec Ideal S1x32 .f32) (ix2 0 q) = argB m c (ix1 q) := by
  have e : (iblk1 (V3 m ρ) c 3 t : FVec Ideal S1x32 .f32) = shapeCast S1x32 (argB m c) shapeCasts_S32_S1x32 :=
    (read1_3 t _).trans ((W3_of m ρ c main_v1 (by decide)).trans
      ((W2_of_ne m ρ c main_v1 (by decide)).trans (W1_v1 m ρ c)))
  refine (congrFun e _).trans (shapeCast_apply _ _ _ (ix1 q) ?_)
  rw [position1, position2]
  show q.val = 0 * 32 + q.val
  omega

/-! ## The result -/

theorem block_mark (n k : Fin 64) (q : Fin 32) :
    inBlock (ix2 n ⟨32 * k + q, by omega⟩) = if k = n then (1 : EReal) else 0 := by
  rw [inBlock_apply]
  have e : (32 * k.val + q.val) / 32 = k.val := by omega
  show (if n.val = (32 * k.val + q.val) / 32 then (1 : EReal) else 0) = _
  rw [e]
  refine if_congr ?_ rfl rfl
  rw [Fin.ext_iff]
  exact eq_comm

/-- The body of the second call at an index, over what its four blocks hold in the row and the column read. -/
theorem out1_of (x0 : Vec Ideal S512x64 .f32) (x1 : Vec Ideal S64x2048 .f32) (x2 : Vec Ideal S64x32 .f32)
    (x3 : Vec Ideal S1x32 .f32) (r : Fin 512) (q : Fin 32) (x : Fin 64 → EReal) (U : Fin 64 → Fin 64 → EReal)
    (l : Fin 64 → EReal) (b : EReal) (h0 : ∀ j, x0 (ix2 r j) = x j)
    (h1 : ∀ j i : Fin 64, x1 (ix2 j ⟨32 * i + q, by omega⟩) = U j i) (h2 : ∀ n, x2 (ix2 n q) = l n)
    (h3 : x3 (ix2 0 q) = b) : out1_4 x0 x1 x2 x3 (ix2 r q)
      = ∑ i : Fin 64, (∑ j : Fin 64, x j * U j i) * (∑ n : Fin 64, x n * inBlock (ix2 n ⟨32 * i + q, by omega⟩))
        + ∑ n : Fin 64, x n * l n + b := by
  rw [out1_apply]
  simp only [h0, h1, h2, h3]

/-- The kernel's result is the plain form of the reference wherever the inputs and the weights are finite. -/
theorem value_apply (hx : ∀ i, argX m c i ≠ (⊤ : EReal) ∧ argX m c i ≠ (⊥ : EReal))
    (hw : ∀ i, argW m c i ≠ (⊤ : EReal) ∧ argW m c i ≠ (⊥ : EReal)) (b : Fin 256) (k : Fin 8) (q : Fin 32) :
    (W5 m ρ c (Proc.devRef .tc main_v5) : FVec Ideal S256x8x32 .f32) (ix3 b k q)
      = plain (fun n => argX m c (ix3 b k n)) (fun l => argW m c (ix2 l q)) + argB m c (ix1 q) := by
  have hR : 8 * b.val + k.val < 2048 := by omega
  let R : Fin 2048 := ⟨8 * b.val + k.val, hR⟩
  have hN : (8 * b.val + k.val) / 512 < cfg1.N := by rw [show cfg1.N = 4 from N_1]; omega
  let t : Fin cfg1.N := ⟨(8 * b.val + k.val) / 512, hN⟩
  let r : Fin 512 := ⟨(8 * b.val + k.val) % 512, Nat.mod_lt _ (by decide)⟩
  have hRt : 8 * b.val + k.val = 512 * t.val + r.val := by
    show 8 * b.val + k.val = 512 * ((8 * b.val + k.val) / 512) + (8 * b.val + k.val) % 512
    omega
  have e4 : (W4 m ρ c (Proc.devRef .tc main_v4) : FVec Ideal S2048x32 .f32) = stacked (V3 m ρ) c :=
    (W4_arr m ρ c 4).trans (final1_4 (V3 m ρ) c)
  refine (congrFun (W5_v5 m ρ c) _).trans ?_
  refine (shapeCast_apply _ _ _ (ix2 R q) ?_).trans ?_
  · rw [position2, position3]
    show (8 * b.val + k.val) * 32 + q.val = b.val * (8 * 32) + (k.val * 32 + q.val)
    omega
  refine (congrFun e4 _).trans ((stacked_apply (V3 m ρ) c t r q R hRt).trans ?_)
  refine (out1_of _ _ _ _ r q (fun n => argX m c (ix3 b k n)) (fun j i => quad m ρ c (ix2 ⟨64 * j + i, by omega⟩ q))
    _ _ (fun j => inputs_in m ρ c t r b k j hRt) (fun j i => quad_in m ρ c t j i q)
    (fun n => (congrFun (lin_in m ρ c t) _).trans (lin_apply m ρ c n q)) (bias_in m ρ c t q)).trans ?_
  refine congrArg (· + argB m c (ix1 q)) ?_
  exact ereal_form_eq_plain pairs (fun n => argX m c (ix3 b k n)) (fun p => argW m c (ix2 ⟨p, by omega⟩ q))
    (fun p => argW m c (ix2 ⟨2016 + p, by omega⟩ q)) (fun p => argW m c (ix2 ⟨4032 + p, by omega⟩ q))
    (fun j i => quad m ρ c (ix2 ⟨64 * j + i, by omega⟩ q)) (fun n i => inBlock (ix2 n ⟨32 * i + q, by omega⟩))
    (fun n p => ((occ rowOf colOf n p : ℝ) : EReal))
    (fun _ => hx _) (fun _ => hw _) (fun _ => hw _) (fun _ => hw _)
    (fun p => quad_pair m ρ c p q _ rfl) (fun j i h => quad_zero m ρ c j i h q _ rfl)
    (fun n i => block_mark n i q) (fun _ _ => rfl)

end Cert.KernelIdeal.Gen

end
-- ==== Proof.Run.lean ====
/-
  The idealized kernel's run with its RESULT: the generated launch (the segments, the thread states and their
  chain) read at its last boundary also at the result's buffer. The result ends at the last boundary's contents,
  which the value modules compute; the arguments end as launched.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result at the last boundary's contents and the arguments as launched. -/
theorem run_value : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Gen

end
-- ==== Proof.lean ====
/-
  The proof of `Cert.Claim`. The two runs of the kernel and the reference's run give the frames; the ideal pass rewrote
  nothing; and the value claim compares the two results at each index: both are the plain form of the reference, the
  kernel's by `value_apply` under the precondition, the reference's by `res_apply`.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Finite
public import proofs.«01_k».proof.Proof.Main
public import proofs.«01_k».proof.Proof.Run
public import Idealize.ShloMosaic.Lib.Quiescent

@[expose] public section

set_option maxRecDepth 16384

noncomputable section

namespace Cert.Proof

open Idealize.ShloMosaic Idealize.ShloMosaic.TcCoe Idealize.ShloMosaic.ValueIdx Idealize.SL.Sem
open Cert.PairForm

theorem frame_kernel : Cert.quiescent_Kernel (hKernel := Cert.Kernel.Gen.facts) :=
  fun m g _ => Cert.Kernel.Gen.frame m g

theorem frame_ideal : Cert.quiescent_KernelIdeal (hKernelIdeal := Cert.KernelIdeal.Gen.facts) :=
  fun m g _ => Cert.KernelIdeal.Gen.frame m g

theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- Index by index the two results agree, when the reference starts from the kernel's arguments. -/
theorem same_result (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hx : ∀ i, Cert.KernelIdeal.Gen.argX m c i ≠ (⊤ : EReal) ∧ Cert.KernelIdeal.Gen.argX m c i ≠ (⊥ : EReal))
    (hw : ∀ i, Cert.KernelIdeal.Gen.argW m c i ≠ (⊤ : EReal) ∧ Cert.KernelIdeal.Gen.argW m c i ≠ (⊥ : EReal))
    (e0 : inArr m' c = Cert.KernelIdeal.Gen.argX m c) (e1 : wArr m' c = Cert.KernelIdeal.Gen.argW m c)
    (e2 : bArr m' c = Cert.KernelIdeal.Gen.argB m c) :
    (Cert.ReferenceIdeal.Value.res_main_v15 m' c : FVec Ideal Cert.ReferenceIdeal.S256x8x32 .f32)
      = (Cert.KernelIdeal.Gen.W5 m g c (Proc.devRef .tc Cert.KernelIdeal.main_v5) :
          FVec Ideal Cert.KernelIdeal.S256x8x32 .f32) := by
  funext i
  obtain ⟨b, k, q, rfl⟩ : ∃ (b : Fin 256) (k : Fin 8) (q : Fin 32), i = ix3 b k q := ⟨i 0, i 1, i 2, eq_ix3 i⟩
  refine (res_apply b k m' c q).trans ?_
  rw [e0, e1, e2]
  exact (Cert.KernelIdeal.Gen.value_apply m g c hx hw b k q).symm

theorem same_value : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  refine ⟨fun c => Cert.KernelIdeal.Gen.W5 m g c (Proc.devRef .tc Cert.KernelIdeal.main_v5),
    Cert.KernelIdeal.Gen.run_value m g, ?_⟩
  refine (θ_run Cert.ReferenceIdeal.defs _ _).mono (fun r h c => ⟨(h c).1.trans ?_, (h c).2⟩)
    (Cert.ReferenceIdeal.Value.run (F := Ideal) m' g')
  exact same_result m g m' c (@finite_inputs finite_facts _ _ _ (hpre c).1) (@finite_weights finite_facts _ _ _ (hpre c).2)
    (hargs c).1 (hargs c).2.1 (hargs c).2.2

theorem claim : Cert.Claim :=
  ⟨Cert.Kernel.Gen.facts, Cert.KernelIdeal.Gen.facts, Cert.ReferenceIdeal.Gen.facts, finite_facts,
    frame_kernel, frame_ideal, fun m g _ => frame_ideal m g trivial, frame_reference,
    fun m g _ => frame_reference m g trivial, trivial, same_value⟩

end Cert.Proof

end
